-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 4096, 2048]⟩ ⟨3, ![8, 4096, 2048]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x2048 : Shape := ⟨3, ![1, 4096, 2048]⟩
abbrev S4096x2048 : Shape := ⟨2, ![4096, 2048]⟩
abbrev S4x512x512 : Shape := ⟨3, ![4, 512, 512]⟩
abbrev S4x7x512x512 : Shape := ⟨4, ![4, 7, 512, 512]⟩
abbrev S4x2x512x512 : Shape := ⟨4, ![4, 2, 512, 512]⟩
abbrev S2x4x7x2 : Shape := ⟨4, ![2, 4, 7, 2]⟩
abbrev S4x2 : Shape := ⟨2, ![4, 2]⟩
abbrev S4x8 : Shape := ⟨2, ![4, 8]⟩
abbrev S1x1 : Shape := ⟨2, ![1, 1]⟩
abbrev S_ : Shape := ⟨0, ![]⟩
abbrev S1x1x512x512 : Shape := ⟨4, ![1, 1, 512, 512]⟩
abbrev S512x512 : Shape := ⟨2, ![512, 512]⟩
abbrev S1x512x512 : Shape := ⟨3, ![1, 512, 512]⟩
abbrev S1x1x1x1 : Shape := ⟨4, ![1, 1, 1, 1]⟩

abbrev nBuf : Space → Nat
  | .hbm => 2
  | .vmem => 4
  | .smem => 0
  | _ => 0

abbrev bufTy : (tb : Table) → Fin (tcTables nBuf tb) → BufTy
  | .hbm, ⟨0, _⟩ => ⟨S1x4096x2048, .f32⟩
  | .hbm, ⟨1, _⟩ => ⟨S4096x2048, .bf16⟩
  | .local _ .vmem, ⟨0, _⟩ => ⟨S4x512x512, .bf16⟩
  | .local _ .vmem, ⟨1, _⟩ => ⟨S4x7x512x512, .bf16⟩
  | .local _ .vmem, ⟨2, _⟩ => ⟨S4096x2048, .bf16⟩
  | .local _ .vmem, ⟨3, _⟩ => ⟨S4x2x512x512, .f32⟩
  | _, _ => ⟨S1x4096x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 152 → Bool
  | ⟨i, _⟩ => dmaSemScopedAt i

abbrev sig : RefSig :=
  (ofTc nBuf bufTy 1 152 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 8
abbrev τ : Topo := Topo.v7x

variable {F : FTy → Type} [FloatOps F]

abbrev grid0 : Pipeline.Grid := .none

def k0_off1 (d0 : Dev nD) : Fin 3 → Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v25 : BitVec 32 := Scalar.muli v2 c512_i32
  let c0_i32_20 : BitVec 32 := 0#32
  ![0, v25.toNat, 0]
def k0_off2 (d0 : Dev nD) : Fin 3 → Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_21 : BitVec 32 := 512#32
  let v32 : BitVec 32 := Scalar.muli v2 c512_i32_21
  let c512_i32_29 : BitVec 32 := 512#32
  ![0, v32.toNat, 512]
def k0_off3 (d0 : Dev nD) : Fin 3 → Nat :=
  let c0_i32_31 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_30 : BitVec 32 := 512#32
  let v39 : BitVec 32 := Scalar.muli v2 c512_i32_30
  let c1024_i32 : BitVec 32 := 1024#32
  ![0, v39.toNat, 1024]
def k0_off4 (d0 : Dev nD) : Fin 3 → Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_37 : BitVec 32 := 512#32
  let v46 : BitVec 32 := Scalar.muli v2 c512_i32_37
  let c1536_i32 : BitVec 32 := 1536#32
  ![0, v46.toNat, 1536]
def k0_off5 (d0 : Dev nD) (c0_i32_44 : BitVec 32) : Fin 3 → Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v53 : BitVec 32 := Scalar.subi v2 c0_i32_44
  let c1_i32_45 : BitVec 32 := 1#32
  let v54 : BitVec 32 := Scalar.subi v53 c1_i32_45
  let c8_i32_46 : BitVec 32 := 8#32
  let c0_i32_47 : BitVec 32 := 0#32
  let v55 : BitVec 1 := Scalar.cmpi .eq c8_i32_46 c0_i32_47
  let c1_i32_48 : BitVec 32 := 1#32
  let v56 : BitVec 32 := Scalar.select v55 c1_i32_48 c8_i32_46
  let v57 : BitVec 32 := Scalar.remsi v54 v56
  let c0_i32_50 : BitVec 32 := 0#32
  let v59 : BitVec 1 := Scalar.cmpi .slt v57 c0_i32_50
  let c0_i32_51 : BitVec 32 := 0#32
  let v60 : BitVec 1 := Scalar.cmpi .slt v56 c0_i32_51
  let v61 : BitVec 1 := Scalar.xori v59 v60
  let c0_i32_49 : BitVec 32 := 0#32
  let v58 : BitVec 1 := Scalar.cmpi .ne v57 c0_i32_49
  let v62 : BitVec 1 := Scalar.andi v61 v58
  let v63 : BitVec 32 := Scalar.addi v57 v56
  let v64 : BitVec 32 := Scalar.select v62 v63 v57
  let c512_i32_52 : BitVec 32 := 512#32
  let v65 : BitVec 32 := Scalar.muli v64 c512_i32_52
  let c0_i32_60 : BitVec 32 := 0#32
  ![0, v65.toNat, 0]
def k0_off6 (d0 : Dev nD) (c0_i32_61 : BitVec 32) : Fin 3 → Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v72 : BitVec 32 := Scalar.subi v2 c0_i32_61
  let c1_i32_62 : BitVec 32 := 1#32
  let v73 : BitVec 32 := Scalar.subi v72 c1_i32_62
  let c8_i32_63 : BitVec 32 := 8#32
  let c0_i32_64 : BitVec 32 := 0#32
  let v74 : BitVec 1 := Scalar.cmpi .eq c8_i32_63 c0_i32_64
  let c1_i32_65 : BitVec 32 := 1#32
  let v75 : BitVec 32 := Scalar.select v74 c1_i32_65 c8_i32_63
  let v76 : BitVec 32 := Scalar.remsi v73 v75
  let c0_i32_67 : BitVec 32 := 0#32
  let v78 : BitVec 1 := Scalar.cmpi .slt v76 c0_i32_67
  let c0_i32_68 : BitVec 32 := 0#32
  let v79 : BitVec 1 := Scalar.cmpi .slt v75 c0_i32_68
  let v80 : BitVec 1 := Scalar.xori v78 v79
  let c0_i32_66 : BitVec 32 := 0#32
  let v77 : BitVec 1 := Scalar.cmpi .ne v76 c0_i32_66
  let v81 : BitVec 1 := Scalar.andi v80 v77
  let v82 : BitVec 32 := Scalar.addi v76 v75
  let v83 : BitVec 32 := Scalar.select v81 v82 v76
  let c512_i32_69 : BitVec 32 := 512#32
  let v84 : BitVec 32 := Scalar.muli v83 c512_i32_69
  let c512_i32_77 : BitVec 32 := 512#32
  ![0, v84.toNat, 512]
def k0_off7 (d0 : Dev nD) (c0_i32_78 : BitVec 32) : Fin 3 → Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v91 : BitVec 32 := Scalar.addi v2 c0_i32_78
  let c1_i32_79 : BitVec 32 := 1#32
  let v92 : BitVec 32 := Scalar.addi v91 c1_i32_79
  let c8_i32_80 : BitVec 32 := 8#32
  let c0_i32_81 : BitVec 32 := 0#32
  let v93 : BitVec 1 := Scalar.cmpi .eq c8_i32_80 c0_i32_81
  let c1_i32_82 : BitVec 32 := 1#32
  let v94 : BitVec 32 := Scalar.select v93 c1_i32_82 c8_i32_80
  let v95 : BitVec 32 := Scalar.remsi v92 v94
  let c0_i32_84 : BitVec 32 := 0#32
  let v97 : BitVec 1 := Scalar.cmpi .slt v95 c0_i32_84
  let c0_i32_85 : BitVec 32 := 0#32
  let v98 : BitVec 1 := Scalar.cmpi .slt v94 c0_i32_85
  let v99 : BitVec 1 := Scalar.xori v97 v98
  let c0_i32_83 : BitVec 32 := 0#32
  let v96 : BitVec 1 := Scalar.cmpi .ne v95 c0_i32_83
  let v100 : BitVec 1 := Scalar.andi v99 v96
  let v101 : BitVec 32 := Scalar.addi v95 v94
  let v102 : BitVec 32 := Scalar.select v100 v101 v95
  let c512_i32_86 : BitVec 32 := 512#32
  let v103 : BitVec 32 := Scalar.muli v102 c512_i32_86
  let c1024_i32_94 : BitVec 32 := 1024#32
  ![0, v103.toNat, 1024]
def k0_off8 (d0 : Dev nD) (c0_i32_95 : BitVec 32) : Fin 3 → Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v110 : BitVec 32 := Scalar.addi v2 c0_i32_95
  let c1_i32_96 : BitVec 32 := 1#32
  let v111 : BitVec 32 := Scalar.addi v110 c1_i32_96
  let c8_i32_97 : BitVec 32 := 8#32
  let c0_i32_98 : BitVec 32 := 0#32
  let v112 : BitVec 1 := Scalar.cmpi .eq c8_i32_97 c0_i32_98
  let c1_i32_99 : BitVec 32 := 1#32
  let v113 : BitVec 32 := Scalar.select v112 c1_i32_99 c8_i32_97
  let v114 : BitVec 32 := Scalar.remsi v111 v113
  let c0_i32_101 : BitVec 32 := 0#32
  let v116 : BitVec 1 := Scalar.cmpi .slt v114 c0_i32_101
  let c0_i32_102 : BitVec 32 := 0#32
  let v117 : BitVec 1 := Scalar.cmpi .slt v113 c0_i32_102
  let v118 : BitVec 1 := Scalar.xori v116 v117
  let c0_i32_100 : BitVec 32 := 0#32
  let v115 : BitVec 1 := Scalar.cmpi .ne v114 c0_i32_100
  let v119 : BitVec 1 := Scalar.andi v118 v115
  let v120 : BitVec 32 := Scalar.addi v114 v113
  let v121 : BitVec 32 := Scalar.select v119 v120 v114
  let c512_i32_103 : BitVec 32 := 512#32
  let v122 : BitVec 32 := Scalar.muli v121 c512_i32_103
  let c1536_i32_111 : BitVec 32 := 1536#32
  ![0, v122.toNat, 1536]
def k0_dev1 (d0 : Dev nD) : Nat :=
  let c0_i32_114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_113 : BitVec 32 := 1#32
  let v130 : BitVec 32 := Scalar.muli v24 c1_i32_113
  let v131 : BitVec 32 := Scalar.addi c0_i32_114 v130
  v131.toNat
def k0_dev2 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_116 : BitVec 32 := 1#32
  let v132 : BitVec 32 := Scalar.muli v13 c1_i32_116
  let v133 : BitVec 32 := Scalar.addi c0_i32_117 v132
  v133.toNat
def k0_dev3 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_144 : BitVec 32 := 1#32
  let v146 : BitVec 32 := Scalar.muli v13 c1_i32_144
  let v147 : BitVec 32 := Scalar.addi c0_i32_145 v146
  v147.toNat
def k0_dev4 (d0 : Dev nD) : Nat :=
  let c0_i32_176 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_175 : BitVec 32 := 1#32
  let v168 : BitVec 32 := Scalar.muli v24 c1_i32_175
  let v169 : BitVec 32 := Scalar.addi c0_i32_176 v168
  v169.toNat
def k0_dev5 (d0 : Dev nD) : Nat :=
  let c0_i32_207 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_206 : BitVec 32 := 1#32
  let v190 : BitVec 32 := Scalar.muli v13 c1_i32_206
  let v191 : BitVec 32 := Scalar.addi c0_i32_207 v190
  v191.toNat
def k0_dev6 (d0 : Dev nD) : Nat :=
  let c0_i32_238 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_237 : BitVec 32 := 1#32
  let v212 : BitVec 32 := Scalar.muli v24 c1_i32_237
  let v213 : BitVec 32 := Scalar.addi c0_i32_238 v212
  v213.toNat
def k0_dev7 (d0 : Dev nD) : Nat :=
  let c0_i32_324 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_323 : BitVec 32 := 1#32
  let v270 : BitVec 32 := Scalar.muli v13 c1_i32_323
  let v271 : BitVec 32 := Scalar.addi c0_i32_324 v270
  v271.toNat
def k0_dev8 (d0 : Dev nD) : Nat :=
  let c0_i32_410 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_409 : BitVec 32 := 1#32
  let v328 : BitVec 32 := Scalar.muli v24 c1_i32_409
  let v329 : BitVec 32 := Scalar.addi c0_i32_410 v328
  v329.toNat
def k0_dev9 (d0 : Dev nD) : Nat :=
  let c0_i32_496 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_495 : BitVec 32 := 1#32
  let v386 : BitVec 32 := Scalar.muli v13 c1_i32_495
  let v387 : BitVec 32 := Scalar.addi c0_i32_496 v386
  v387.toNat
def k0_dev10 (d0 : Dev nD) : Nat :=
  let c0_i32_582 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_581 : BitVec 32 := 1#32
  let v444 : BitVec 32 := Scalar.muli v24 c1_i32_581
  let v445 : BitVec 32 := Scalar.addi c0_i32_582 v444
  v445.toNat
def k0_dev11 (d0 : Dev nD) : Nat :=
  let c0_i32_668 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_667 : BitVec 32 := 1#32
  let v502 : BitVec 32 := Scalar.muli v13 c1_i32_667
  let v503 : BitVec 32 := Scalar.addi c0_i32_668 v502
  v503.toNat
def k0_dev12 (d0 : Dev nD) : Nat :=
  let c0_i32_754 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_753 : BitVec 32 := 1#32
  let v560 : BitVec 32 := Scalar.muli v24 c1_i32_753
  let v561 : BitVec 32 := Scalar.addi c0_i32_754 v560
  v561.toNat
def k0_dev13 (d0 : Dev nD) : Nat :=
  let c0_i32_840 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_839 : BitVec 32 := 1#32
  let v618 : BitVec 32 := Scalar.muli v13 c1_i32_839
  let v619 : BitVec 32 := Scalar.addi c0_i32_840 v618
  v619.toNat
def k0_dev14 (d0 : Dev nD) : Nat :=
  let c0_i32_926 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_925 : BitVec 32 := 1#32
  let v676 : BitVec 32 := Scalar.muli v24 c1_i32_925
  let v677 : BitVec 32 := Scalar.addi c0_i32_926 v676
  v677.toNat
def k0_dev15 (d0 : Dev nD) : Nat :=
  let c0_i32_1012 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1011 : BitVec 32 := 1#32
  let v734 : BitVec 32 := Scalar.muli v13 c1_i32_1011
  let v735 : BitVec 32 := Scalar.addi c0_i32_1012 v734
  v735.toNat
def k0_dev16 (d0 : Dev nD) : Nat :=
  let c0_i32_1098 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1097 : BitVec 32 := 1#32
  let v792 : BitVec 32 := Scalar.muli v24 c1_i32_1097
  let v793 : BitVec 32 := Scalar.addi c0_i32_1098 v792
  v793.toNat
def k0_dev17 (d0 : Dev nD) : Nat :=
  let c0_i32_1184 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1183 : BitVec 32 := 1#32
  let v850 : BitVec 32 := Scalar.muli v13 c1_i32_1183
  let v851 : BitVec 32 := Scalar.addi c0_i32_1184 v850
  v851.toNat
def k0_dev18 (d0 : Dev nD) : Nat :=
  let c0_i32_1270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1269 : BitVec 32 := 1#32
  let v908 : BitVec 32 := Scalar.muli v24 c1_i32_1269
  let v909 : BitVec 32 := Scalar.addi c0_i32_1270 v908
  v909.toNat
def k0_dev19 (d0 : Dev nD) : Nat :=
  let c0_i32_1355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1354 : BitVec 32 := 1#32
  let v966 : BitVec 32 := Scalar.muli v13 c1_i32_1354
  let v967 : BitVec 32 := Scalar.addi c0_i32_1355 v966
  v967.toNat
def k0_dev20 (d0 : Dev nD) : Nat :=
  let c0_i32_1441 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1440 : BitVec 32 := 1#32
  let v1024 : BitVec 32 := Scalar.muli v24 c1_i32_1440
  let v1025 : BitVec 32 := Scalar.addi c0_i32_1441 v1024
  v1025.toNat
def k0_dev21 (d0 : Dev nD) : Nat :=
  let c0_i32_1527 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1526 : BitVec 32 := 1#32
  let v1082 : BitVec 32 := Scalar.muli v13 c1_i32_1526
  let v1083 : BitVec 32 := Scalar.addi c0_i32_1527 v1082
  v1083.toNat
def k0_dev22 (d0 : Dev nD) : Nat :=
  let c0_i32_1613 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1612 : BitVec 32 := 1#32
  let v1140 : BitVec 32 := Scalar.muli v24 c1_i32_1612
  let v1141 : BitVec 32 := Scalar.addi c0_i32_1613 v1140
  v1141.toNat
def k0_dev23 (d0 : Dev nD) : Nat :=
  let c0_i32_1697 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1696 : BitVec 32 := 1#32
  let v1198 : BitVec 32 := Scalar.muli v13 c1_i32_1696
  let v1199 : BitVec 32 := Scalar.addi c0_i32_1697 v1198
  v1199.toNat
def k0_dev24 (d0 : Dev nD) : Nat :=
  let c0_i32_1783 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1782 : BitVec 32 := 1#32
  let v1256 : BitVec 32 := Scalar.muli v24 c1_i32_1782
  let v1257 : BitVec 32 := Scalar.addi c0_i32_1783 v1256
  v1257.toNat
def k0_dev25 (d0 : Dev nD) : Nat :=
  let c0_i32_1869 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1868 : BitVec 32 := 1#32
  let v1314 : BitVec 32 := Scalar.muli v13 c1_i32_1868
  let v1315 : BitVec 32 := Scalar.addi c0_i32_1869 v1314
  v1315.toNat
def k0_dev26 (d0 : Dev nD) : Nat :=
  let c0_i32_1955 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1954 : BitVec 32 := 1#32
  let v1372 : BitVec 32 := Scalar.muli v24 c1_i32_1954
  let v1373 : BitVec 32 := Scalar.addi c0_i32_1955 v1372
  v1373.toNat
def k0_dev27 (d0 : Dev nD) : Nat :=
  let c0_i32_2039 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2038 : BitVec 32 := 1#32
  let v1430 : BitVec 32 := Scalar.muli v13 c1_i32_2038
  let v1431 : BitVec 32 := Scalar.addi c0_i32_2039 v1430
  v1431.toNat
def k0_dev28 (d0 : Dev nD) : Nat :=
  let c0_i32_2125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2124 : BitVec 32 := 1#32
  let v1488 : BitVec 32 := Scalar.muli v24 c1_i32_2124
  let v1489 : BitVec 32 := Scalar.addi c0_i32_2125 v1488
  v1489.toNat
def k0_dev29 (d0 : Dev nD) : Nat :=
  let c0_i32_2211 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2210 : BitVec 32 := 1#32
  let v1546 : BitVec 32 := Scalar.muli v13 c1_i32_2210
  let v1547 : BitVec 32 := Scalar.addi c0_i32_2211 v1546
  v1547.toNat
def k0_dev30 (d0 : Dev nD) : Nat :=
  let c0_i32_2297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2296 : BitVec 32 := 1#32
  let v1604 : BitVec 32 := Scalar.muli v24 c1_i32_2296
  let v1605 : BitVec 32 := Scalar.addi c0_i32_2297 v1604
  v1605.toNat
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2356 : BitVec 32 := 1#32
  let v1645 : BitVec 32 := Scalar.addi v2 c1_i32_2356
  let c0_i32_2357 : BitVec 32 := 0#32
  let v1646 : BitVec 32 := Scalar.subi v1645 c0_i32_2357
  let c8_i32_2358 : BitVec 32 := 8#32
  let c0_i32_2359 : BitVec 32 := 0#32
  let v1647 : BitVec 1 := Scalar.cmpi .eq c8_i32_2358 c0_i32_2359
  let c1_i32_2360 : BitVec 32 := 1#32
  let v1648 : BitVec 32 := Scalar.select v1647 c1_i32_2360 c8_i32_2358
  let v1649 : BitVec 32 := Scalar.remsi v1646 v1648
  let c0_i32_2362 : BitVec 32 := 0#32
  let v1651 : BitVec 1 := Scalar.cmpi .slt v1649 c0_i32_2362
  let c0_i32_2363 : BitVec 32 := 0#32
  let v1652 : BitVec 1 := Scalar.cmpi .slt v1648 c0_i32_2363
  let v1653 : BitVec 1 := Scalar.xori v1651 v1652
  let c0_i32_2361 : BitVec 32 := 0#32
  let v1650 : BitVec 1 := Scalar.cmpi .ne v1649 c0_i32_2361
  let v1654 : BitVec 1 := Scalar.andi v1653 v1650
  let v1655 : BitVec 32 := Scalar.addi v1649 v1648
  let v1656 : BitVec 32 := Scalar.select v1654 v1655 v1649
  let c512_i32_2364 : BitVec 32 := 512#32
  let v1657 : BitVec 32 := Scalar.muli v1656 c512_i32_2364
  let v1658 : Index := Scalar.indexCast v1657
  let c0_2365 : Index := 0#32
  ![v1658.toNat, 0]
def k0_off10 (d0 : Dev nD) (c0_i32_2367 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2366 : BitVec 32 := 1#32
  let v1662 : BitVec 32 := Scalar.addi v2 c1_i32_2366
  let v1663 : BitVec 32 := Scalar.subi v1662 c0_i32_2367
  let c8_i32_2368 : BitVec 32 := 8#32
  let c0_i32_2369 : BitVec 32 := 0#32
  let v1664 : BitVec 1 := Scalar.cmpi .eq c8_i32_2368 c0_i32_2369
  let c1_i32_2370 : BitVec 32 := 1#32
  let v1665 : BitVec 32 := Scalar.select v1664 c1_i32_2370 c8_i32_2368
  let v1666 : BitVec 32 := Scalar.remsi v1663 v1665
  let c0_i32_2372 : BitVec 32 := 0#32
  let v1668 : BitVec 1 := Scalar.cmpi .slt v1666 c0_i32_2372
  let c0_i32_2373 : BitVec 32 := 0#32
  let v1669 : BitVec 1 := Scalar.cmpi .slt v1665 c0_i32_2373
  let v1670 : BitVec 1 := Scalar.xori v1668 v1669
  let c0_i32_2371 : BitVec 32 := 0#32
  let v1667 : BitVec 1 := Scalar.cmpi .ne v1666 c0_i32_2371
  let v1671 : BitVec 1 := Scalar.andi v1670 v1667
  let v1672 : BitVec 32 := Scalar.addi v1666 v1665
  let v1673 : BitVec 32 := Scalar.select v1671 v1672 v1666
  let c512_i32_2374 : BitVec 32 := 512#32
  let v1674 : BitVec 32 := Scalar.muli v1673 c512_i32_2374
  let c0_i32_2385 : BitVec 32 := 0#32
  ![v1674.toNat, 0]
def k0_dev31 (d0 : Dev nD) : Nat :=
  let c0_i32_2384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2383 : BitVec 32 := 1#32
  let v1675 : BitVec 32 := Scalar.muli v13 c1_i32_2383
  let v1676 : BitVec 32 := Scalar.addi c0_i32_2384 v1675
  v1676.toNat
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2455 : BitVec 32 := 1#32
  let v1731 : BitVec 32 := Scalar.subi v2 c1_i32_2455
  let c0_i32_2456 : BitVec 32 := 0#32
  let v1732 : BitVec 32 := Scalar.addi v1731 c0_i32_2456
  let c8_i32_2457 : BitVec 32 := 8#32
  let c0_i32_2458 : BitVec 32 := 0#32
  let v1733 : BitVec 1 := Scalar.cmpi .eq c8_i32_2457 c0_i32_2458
  let c1_i32_2459 : BitVec 32 := 1#32
  let v1734 : BitVec 32 := Scalar.select v1733 c1_i32_2459 c8_i32_2457
  let v1735 : BitVec 32 := Scalar.remsi v1732 v1734
  let c0_i32_2461 : BitVec 32 := 0#32
  let v1737 : BitVec 1 := Scalar.cmpi .slt v1735 c0_i32_2461
  let c0_i32_2462 : BitVec 32 := 0#32
  let v1738 : BitVec 1 := Scalar.cmpi .slt v1734 c0_i32_2462
  let v1739 : BitVec 1 := Scalar.xori v1737 v1738
  let c0_i32_2460 : BitVec 32 := 0#32
  let v1736 : BitVec 1 := Scalar.cmpi .ne v1735 c0_i32_2460
  let v1740 : BitVec 1 := Scalar.andi v1739 v1736
  let v1741 : BitVec 32 := Scalar.addi v1735 v1734
  let v1742 : BitVec 32 := Scalar.select v1740 v1741 v1735
  let c512_i32_2463 : BitVec 32 := 512#32
  let v1743 : BitVec 32 := Scalar.muli v1742 c512_i32_2463
  let v1744 : Index := Scalar.indexCast v1743
  let c1024 : Index := 1024#32
  ![v1744.toNat, 1024]
def k0_off12 (d0 : Dev nD) (c0_i32_2465 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2464 : BitVec 32 := 1#32
  let v1748 : BitVec 32 := Scalar.subi v2 c1_i32_2464
  let v1749 : BitVec 32 := Scalar.addi v1748 c0_i32_2465
  let c8_i32_2466 : BitVec 32 := 8#32
  let c0_i32_2467 : BitVec 32 := 0#32
  let v1750 : BitVec 1 := Scalar.cmpi .eq c8_i32_2466 c0_i32_2467
  let c1_i32_2468 : BitVec 32 := 1#32
  let v1751 : BitVec 32 := Scalar.select v1750 c1_i32_2468 c8_i32_2466
  let v1752 : BitVec 32 := Scalar.remsi v1749 v1751
  let c0_i32_2470 : BitVec 32 := 0#32
  let v1754 : BitVec 1 := Scalar.cmpi .slt v1752 c0_i32_2470
  let c0_i32_2471 : BitVec 32 := 0#32
  let v1755 : BitVec 1 := Scalar.cmpi .slt v1751 c0_i32_2471
  let v1756 : BitVec 1 := Scalar.xori v1754 v1755
  let c0_i32_2469 : BitVec 32 := 0#32
  let v1753 : BitVec 1 := Scalar.cmpi .ne v1752 c0_i32_2469
  let v1757 : BitVec 1 := Scalar.andi v1756 v1753
  let v1758 : BitVec 32 := Scalar.addi v1752 v1751
  let v1759 : BitVec 32 := Scalar.select v1757 v1758 v1752
  let c512_i32_2472 : BitVec 32 := 512#32
  let v1760 : BitVec 32 := Scalar.muli v1759 c512_i32_2472
  let c1024_i32_2483 : BitVec 32 := 1024#32
  ![v1760.toNat, 1024]
def k0_dev32 (d0 : Dev nD) : Nat :=
  let c0_i32_2482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2481 : BitVec 32 := 1#32
  let v1761 : BitVec 32 := Scalar.muli v24 c1_i32_2481
  let v1762 : BitVec 32 := Scalar.addi c0_i32_2482 v1761
  v1762.toNat
def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2553 : BitVec 32 := 1#32
  let v1817 : BitVec 32 := Scalar.addi v2 c1_i32_2553
  let c0_i32_2554 : BitVec 32 := 0#32
  let v1818 : BitVec 32 := Scalar.subi v1817 c0_i32_2554
  let c8_i32_2555 : BitVec 32 := 8#32
  let c0_i32_2556 : BitVec 32 := 0#32
  let v1819 : BitVec 1 := Scalar.cmpi .eq c8_i32_2555 c0_i32_2556
  let c1_i32_2557 : BitVec 32 := 1#32
  let v1820 : BitVec 32 := Scalar.select v1819 c1_i32_2557 c8_i32_2555
  let v1821 : BitVec 32 := Scalar.remsi v1818 v1820
  let c0_i32_2559 : BitVec 32 := 0#32
  let v1823 : BitVec 1 := Scalar.cmpi .slt v1821 c0_i32_2559
  let c0_i32_2560 : BitVec 32 := 0#32
  let v1824 : BitVec 1 := Scalar.cmpi .slt v1820 c0_i32_2560
  let v1825 : BitVec 1 := Scalar.xori v1823 v1824
  let c0_i32_2558 : BitVec 32 := 0#32
  let v1822 : BitVec 1 := Scalar.cmpi .ne v1821 c0_i32_2558
  let v1826 : BitVec 1 := Scalar.andi v1825 v1822
  let v1827 : BitVec 32 := Scalar.addi v1821 v1820
  let v1828 : BitVec 32 := Scalar.select v1826 v1827 v1821
  let c512_i32_2561 : BitVec 32 := 512#32
  let v1829 : BitVec 32 := Scalar.muli v1828 c512_i32_2561
  let v1830 : Index := Scalar.indexCast v1829
  let c512 : Index := 512#32
  ![v1830.toNat, 512]
def k0_off14 (d0 : Dev nD) (c0_i32_2563 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2562 : BitVec 32 := 1#32
  let v1834 : BitVec 32 := Scalar.addi v2 c1_i32_2562
  let v1835 : BitVec 32 := Scalar.subi v1834 c0_i32_2563
  let c8_i32_2564 : BitVec 32 := 8#32
  let c0_i32_2565 : BitVec 32 := 0#32
  let v1836 : BitVec 1 := Scalar.cmpi .eq c8_i32_2564 c0_i32_2565
  let c1_i32_2566 : BitVec 32 := 1#32
  let v1837 : BitVec 32 := Scalar.select v1836 c1_i32_2566 c8_i32_2564
  let v1838 : BitVec 32 := Scalar.remsi v1835 v1837
  let c0_i32_2568 : BitVec 32 := 0#32
  let v1840 : BitVec 1 := Scalar.cmpi .slt v1838 c0_i32_2568
  let c0_i32_2569 : BitVec 32 := 0#32
  let v1841 : BitVec 1 := Scalar.cmpi .slt v1837 c0_i32_2569
  let v1842 : BitVec 1 := Scalar.xori v1840 v1841
  let c0_i32_2567 : BitVec 32 := 0#32
  let v1839 : BitVec 1 := Scalar.cmpi .ne v1838 c0_i32_2567
  let v1843 : BitVec 1 := Scalar.andi v1842 v1839
  let v1844 : BitVec 32 := Scalar.addi v1838 v1837
  let v1845 : BitVec 32 := Scalar.select v1843 v1844 v1838
  let c512_i32_2570 : BitVec 32 := 512#32
  let v1846 : BitVec 32 := Scalar.muli v1845 c512_i32_2570
  let c512_i32_2581 : BitVec 32 := 512#32
  ![v1846.toNat, 512]
def k0_dev33 (d0 : Dev nD) : Nat :=
  let c0_i32_2580 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2579 : BitVec 32 := 1#32
  let v1847 : BitVec 32 := Scalar.muli v13 c1_i32_2579
  let v1848 : BitVec 32 := Scalar.addi c0_i32_2580 v1847
  v1848.toNat
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2651 : BitVec 32 := 1#32
  let v1903 : BitVec 32 := Scalar.subi v2 c1_i32_2651
  let c0_i32_2652 : BitVec 32 := 0#32
  let v1904 : BitVec 32 := Scalar.addi v1903 c0_i32_2652
  let c8_i32_2653 : BitVec 32 := 8#32
  let c0_i32_2654 : BitVec 32 := 0#32
  let v1905 : BitVec 1 := Scalar.cmpi .eq c8_i32_2653 c0_i32_2654
  let c1_i32_2655 : BitVec 32 := 1#32
  let v1906 : BitVec 32 := Scalar.select v1905 c1_i32_2655 c8_i32_2653
  let v1907 : BitVec 32 := Scalar.remsi v1904 v1906
  let c0_i32_2657 : BitVec 32 := 0#32
  let v1909 : BitVec 1 := Scalar.cmpi .slt v1907 c0_i32_2657
  let c0_i32_2658 : BitVec 32 := 0#32
  let v1910 : BitVec 1 := Scalar.cmpi .slt v1906 c0_i32_2658
  let v1911 : BitVec 1 := Scalar.xori v1909 v1910
  let c0_i32_2656 : BitVec 32 := 0#32
  let v1908 : BitVec 1 := Scalar.cmpi .ne v1907 c0_i32_2656
  let v1912 : BitVec 1 := Scalar.andi v1911 v1908
  let v1913 : BitVec 32 := Scalar.addi v1907 v1906
  let v1914 : BitVec 32 := Scalar.select v1912 v1913 v1907
  let c512_i32_2659 : BitVec 32 := 512#32
  let v1915 : BitVec 32 := Scalar.muli v1914 c512_i32_2659
  let v1916 : Index := Scalar.indexCast v1915
  let c1536 : Index := 1536#32
  ![v1916.toNat, 1536]
def k0_off16 (d0 : Dev nD) (c0_i32_2661 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_2660 : BitVec 32 := 1#32
  let v1920 : BitVec 32 := Scalar.subi v2 c1_i32_2660
  let v1921 : BitVec 32 := Scalar.addi v1920 c0_i32_2661
  let c8_i32_2662 : BitVec 32 := 8#32
  let c0_i32_2663 : BitVec 32 := 0#32
  let v1922 : BitVec 1 := Scalar.cmpi .eq c8_i32_2662 c0_i32_2663
  let c1_i32_2664 : BitVec 32 := 1#32
  let v1923 : BitVec 32 := Scalar.select v1922 c1_i32_2664 c8_i32_2662
  let v1924 : BitVec 32 := Scalar.remsi v1921 v1923
  let c0_i32_2666 : BitVec 32 := 0#32
  let v1926 : BitVec 1 := Scalar.cmpi .slt v1924 c0_i32_2666
  let c0_i32_2667 : BitVec 32 := 0#32
  let v1927 : BitVec 1 := Scalar.cmpi .slt v1923 c0_i32_2667
  let v1928 : BitVec 1 := Scalar.xori v1926 v1927
  let c0_i32_2665 : BitVec 32 := 0#32
  let v1925 : BitVec 1 := Scalar.cmpi .ne v1924 c0_i32_2665
  let v1929 : BitVec 1 := Scalar.andi v1928 v1925
  let v1930 : BitVec 32 := Scalar.addi v1924 v1923
  let v1931 : BitVec 32 := Scalar.select v1929 v1930 v1924
  let c512_i32_2668 : BitVec 32 := 512#32
  let v1932 : BitVec 32 := Scalar.muli v1931 c512_i32_2668
  let c1536_i32_2679 : BitVec 32 := 1536#32
  ![v1932.toNat, 1536]
def k0_dev34 (d0 : Dev nD) : Nat :=
  let c0_i32_2678 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2677 : BitVec 32 := 1#32
  let v1933 : BitVec 32 := Scalar.muli v24 c1_i32_2677
  let v1934 : BitVec 32 := Scalar.addi c0_i32_2678 v1933
  v1934.toNat
def k0_dev35 (d0 : Dev nD) : Nat :=
  let c0_i32_2735 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2734 : BitVec 32 := 1#32
  let v1981 : BitVec 32 := Scalar.muli v13 c1_i32_2734
  let v1982 : BitVec 32 := Scalar.addi c0_i32_2735 v1981
  v1982.toNat
def k0_dev36 (d0 : Dev nD) : Nat :=
  let c0_i32_2792 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2791 : BitVec 32 := 1#32
  let v2029 : BitVec 32 := Scalar.muli v24 c1_i32_2791
  let v2030 : BitVec 32 := Scalar.addi c0_i32_2792 v2029
  v2030.toNat
def k0_dev37 (d0 : Dev nD) : Nat :=
  let c0_i32_2849 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2848 : BitVec 32 := 1#32
  let v2077 : BitVec 32 := Scalar.muli v13 c1_i32_2848
  let v2078 : BitVec 32 := Scalar.addi c0_i32_2849 v2077
  v2078.toNat
def k0_dev38 (d0 : Dev nD) : Nat :=
  let c0_i32_2906 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2905 : BitVec 32 := 1#32
  let v2125 : BitVec 32 := Scalar.muli v24 c1_i32_2905
  let v2126 : BitVec 32 := Scalar.addi c0_i32_2906 v2125
  v2126.toNat
def k0_dev39 (d0 : Dev nD) : Nat :=
  let c0_i32_2963 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2962 : BitVec 32 := 1#32
  let v2173 : BitVec 32 := Scalar.muli v13 c1_i32_2962
  let v2174 : BitVec 32 := Scalar.addi c0_i32_2963 v2173
  v2174.toNat
def k0_dev40 (d0 : Dev nD) : Nat :=
  let c0_i32_3020 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3019 : BitVec 32 := 1#32
  let v2221 : BitVec 32 := Scalar.muli v24 c1_i32_3019
  let v2222 : BitVec 32 := Scalar.addi c0_i32_3020 v2221
  v2222.toNat
def k0_dev41 (d0 : Dev nD) : Nat :=
  let c0_i32_3077 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3076 : BitVec 32 := 1#32
  let v2269 : BitVec 32 := Scalar.muli v13 c1_i32_3076
  let v2270 : BitVec 32 := Scalar.addi c0_i32_3077 v2269
  v2270.toNat
def k0_dev42 (d0 : Dev nD) : Nat :=
  let c0_i32_3134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3133 : BitVec 32 := 1#32
  let v2317 : BitVec 32 := Scalar.muli v24 c1_i32_3133
  let v2318 : BitVec 32 := Scalar.addi c0_i32_3134 v2317
  v2318.toNat
def k0_dev43 (d0 : Dev nD) : Nat :=
  let c0_i32_3191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3190 : BitVec 32 := 1#32
  let v2365 : BitVec 32 := Scalar.muli v13 c1_i32_3190
  let v2366 : BitVec 32 := Scalar.addi c0_i32_3191 v2365
  v2366.toNat
def k0_dev44 (d0 : Dev nD) : Nat :=
  let c0_i32_3248 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3247 : BitVec 32 := 1#32
  let v2413 : BitVec 32 := Scalar.muli v24 c1_i32_3247
  let v2414 : BitVec 32 := Scalar.addi c0_i32_3248 v2413
  v2414.toNat
def k0_dev45 (d0 : Dev nD) : Nat :=
  let c0_i32_3305 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3304 : BitVec 32 := 1#32
  let v2461 : BitVec 32 := Scalar.muli v13 c1_i32_3304
  let v2462 : BitVec 32 := Scalar.addi c0_i32_3305 v2461
  v2462.toNat
def k0_dev46 (d0 : Dev nD) : Nat :=
  let c0_i32_3362 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3361 : BitVec 32 := 1#32
  let v2509 : BitVec 32 := Scalar.muli v24 c1_i32_3361
  let v2510 : BitVec 32 := Scalar.addi c0_i32_3362 v2509
  v2510.toNat
def k0_dev47 (d0 : Dev nD) : Nat :=
  let c0_i32_3419 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3418 : BitVec 32 := 1#32
  let v2557 : BitVec 32 := Scalar.muli v13 c1_i32_3418
  let v2558 : BitVec 32 := Scalar.addi c0_i32_3419 v2557
  v2558.toNat
def k0_dev48 (d0 : Dev nD) : Nat :=
  let c0_i32_3476 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3475 : BitVec 32 := 1#32
  let v2605 : BitVec 32 := Scalar.muli v24 c1_i32_3475
  let v2606 : BitVec 32 := Scalar.addi c0_i32_3476 v2605
  v2606.toNat
def k0_dev49 (d0 : Dev nD) : Nat :=
  let c0_i32_3533 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3532 : BitVec 32 := 1#32
  let v2653 : BitVec 32 := Scalar.muli v13 c1_i32_3532
  let v2654 : BitVec 32 := Scalar.addi c0_i32_3533 v2653
  v2654.toNat
def k0_dev50 (d0 : Dev nD) : Nat :=
  let c0_i32_3590 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3589 : BitVec 32 := 1#32
  let v2701 : BitVec 32 := Scalar.muli v24 c1_i32_3589
  let v2702 : BitVec 32 := Scalar.addi c0_i32_3590 v2701
  v2702.toNat
def k0_dev51 (d0 : Dev nD) : Nat :=
  let c0_i32_3647 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3646 : BitVec 32 := 1#32
  let v2749 : BitVec 32 := Scalar.muli v13 c1_i32_3646
  let v2750 : BitVec 32 := Scalar.addi c0_i32_3647 v2749
  v2750.toNat
def k0_dev52 (d0 : Dev nD) : Nat :=
  let c0_i32_3704 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3703 : BitVec 32 := 1#32
  let v2797 : BitVec 32 := Scalar.muli v24 c1_i32_3703
  let v2798 : BitVec 32 := Scalar.addi c0_i32_3704 v2797
  v2798.toNat
def k0_dev53 (d0 : Dev nD) : Nat :=
  let c0_i32_3761 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3760 : BitVec 32 := 1#32
  let v2845 : BitVec 32 := Scalar.muli v13 c1_i32_3760
  let v2846 : BitVec 32 := Scalar.addi c0_i32_3761 v2845
  v2846.toNat
def k0_dev54 (d0 : Dev nD) : Nat :=
  let c0_i32_3818 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3817 : BitVec 32 := 1#32
  let v2893 : BitVec 32 := Scalar.muli v24 c1_i32_3817
  let v2894 : BitVec 32 := Scalar.addi c0_i32_3818 v2893
  v2894.toNat
def k0_dev55 (d0 : Dev nD) : Nat :=
  let c0_i32_3875 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3874 : BitVec 32 := 1#32
  let v2941 : BitVec 32 := Scalar.muli v13 c1_i32_3874
  let v2942 : BitVec 32 := Scalar.addi c0_i32_3875 v2941
  v2942.toNat
def k0_dev56 (d0 : Dev nD) : Nat :=
  let c0_i32_3932 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3931 : BitVec 32 := 1#32
  let v2989 : BitVec 32 := Scalar.muli v24 c1_i32_3931
  let v2990 : BitVec 32 := Scalar.addi c0_i32_3932 v2989
  v2990.toNat
def k0_dev57 (d0 : Dev nD) : Nat :=
  let c0_i32_3989 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3988 : BitVec 32 := 1#32
  let v3037 : BitVec 32 := Scalar.muli v13 c1_i32_3988
  let v3038 : BitVec 32 := Scalar.addi c0_i32_3989 v3037
  v3038.toNat
def k0_dev58 (d0 : Dev nD) : Nat :=
  let c0_i32_4046 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.subi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4045 : BitVec 32 := 1#32
  let v3085 : BitVec 32 := Scalar.muli v24 c1_i32_4045
  let v3086 : BitVec 32 := Scalar.addi c0_i32_4046 v3085
  v3086.toNat
-- ==== ReferenceIdeal.lean ====
abbrev S8x4096x2048 : Shape := ⟨3, ![8, 4096, 2048]⟩
abbrev S_ : Shape := ⟨0, ![]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S_, .f32⟩
  | .hbm, ⟨2, _⟩ => ⟨S4096x2048, .f32⟩
  | .hbm, ⟨3, _⟩ => ⟨S4096x2048, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Script.lean ====
module

public import proofs.«01_k».proof.Proof.Gen.KernelIdeal.Points

/-! The kernel function written as a list of blocks: one block per copy, wait or update, each with the ring and the
    step as parameters. `body_eq` states that the printed function is this list. -/

@[expose] public section

noncomputable section

namespace Cert.KernelIdeal.AR

open Idealize.ShloMosaic Idealize.ShloMosaic.TcCoe Idealize.SL Idealize.SL.Sem
open Cert.KernelIdeal Cert.KernelIdeal.Gen

variable {F : FTy → Type} [FloatOps F]

/-- A program of the kernel. -/
abbrev KP (F : FTy → Type) (α : Type) := Prog (TpuEff nD τ sig (Elt F) Λ₀ .tc) α

/-! ## Where a ring's pieces are -/

/-- Offsets in the argument of ring `r`'s first piece, -/
def offX0 (r : Fin 4) (c : Dev nD) : Fin 3 → Nat :=
  match r with | 0 => k0_off1 c | 1 => k0_off2 c | 2 => k0_off3 c | 3 => k0_off4 c

/-- of a later piece, -/
def offXs (r : Fin 4) (c : Dev nD) (w : BitVec 32) : Fin 3 → Nat :=
  match r with | 0 => k0_off5 c w | 1 => k0_off6 c w | 2 => k0_off7 c w | 3 => k0_off8 c w

/-- of piece `j`. -/
def offX (r : Fin 4) (c : Dev nD) (j : Fin 8) : Fin 3 → Nat :=
  match j.val with | 0 => offX0 r c | s + 1 => offXs r c (BitVec.ofNat 32 s)

/-- Offsets in the gathered array where ring `r`'s own finished piece is stored, -/
def offG0 (r : Fin 4) (c : Dev nD) : Fin 2 → Nat :=
  match r with | 0 => k0_off9 c | 1 => k0_off13 c | 2 => k0_off11 c | 3 => k0_off15 c

/-- and of the piece that is gathered `k` steps later. -/
def offG (r : Fin 4) (c : Dev nD) (k : Fin 8) : Fin 2 → Nat :=
  match r with
  | 0 => k0_off10 c (BitVec.ofNat 32 k.val) | 1 => k0_off14 c (BitVec.ofNat 32 k.val)
  | 2 => k0_off12 c (BitVec.ofNat 32 k.val) | 3 => k0_off16 c (BitVec.ofNat 32 k.val)

/-- The device ring `r` sends to. -/
def dst (r : Fin 4) (c : Dev nD) : Dev nD :=
  match r with
  | 0 => ⟨k0_dev3 c, k0_dev3_lt c⟩ | 1 => ⟨k0_dev5 c, k0_dev5_lt c⟩
  | 2 => ⟨k0_dev4 c, k0_dev4_lt c⟩ | 3 => ⟨k0_dev6 c, k0_dev6_lt c⟩

theorem offX_inb (r : Fin 4) (c : Dev nD) (j : Fin 8) : ∀ a, offX r c j a + S1x512x512.size a ≤ S1x4096x2048.size a := by
  obtain ⟨j, hj⟩ := j
  cases j with
  | zero => match r with
    | 0 => exact k0_off1_inb c
    | 1 => exact k0_off2_inb c
    | 2 => exact k0_off3_inb c
    | 3 => exact k0_off4_inb c
  | succ s => match r with
    | 0 => exact k0_off5_inb c ⟨s, by omega⟩
    | 1 => exact k0_off6_inb c ⟨s, by omega⟩
    | 2 => exact k0_off7_inb c ⟨s, by omega⟩
    | 3 => exact k0_off8_inb c ⟨s, by omega⟩

theorem offG0_inb (r : Fin 4) (c : Dev nD) : ∀ a, offG0 r c a + S512x512.size a ≤ S4096x2048.size a := by
  match r with
  | 0 => exact k0_off9_inb c
  | 1 => exact k0_off13_inb c
  | 2 => exact k0_off11_inb c
  | 3 => exact k0_off15_inb c

theorem offG_inb (r : Fin 4) (c : Dev nD) (k : Fin 8) : ∀ a, offG r c k a + S512x512.size a ≤ S4096x2048.size a := by
  match r with
  | 0 => exact k0_off10_inb c k
  | 1 => exact k0_off14_inb c k
  | 2 => exact k0_off12_inb c k
  | 3 => exact k0_off16_inb c k

/-- The rectangles of the buffers that the pieces are. -/
abbrev xR (r : Fin 4) (c : Dev nD) (j : Fin 8) : Rect S1x4096x2048 := Rect.unit (s := S1x4096x2048) (offX r c j) S1x512x512.size (offX_inb r c j)
abbrev gR (r : Fin 4) (c : Dev nD) (k : Fin 8) : Rect S4096x2048 := Rect.unit (s := S4096x2048) (offG r c k) S512x512.size (offG_inb r c k)
abbrev g0R (r : Fin 4) (c : Dev nD) : Rect S4096x2048 := Rect.unit (s := S4096x2048) (offG0 r c) S512x512.size (offG0_inb r c)

theorem sb_inb (r : Fin 4) : ∀ a, (![r.val, 0, 0] : Fin 3 → Nat) a + S1x512x512.size a ≤ S4x512x512.size a := by revert r; decide
theorem rv_inb (r : Fin 4) (s : Fin 7) : ∀ a, (![r.val, s.val, 0, 0] : Fin 4 → Nat) a + S1x1x512x512.size a ≤ S4x7x512x512.size a := by
  revert r s; decide
theorem xs_inb (r : Fin 4) (b : Fin 2) : ∀ a, (![r.val, b.val, 0, 0] : Fin 4 → Nat) a + S1x1x512x512.size a ≤ S4x2x512x512.size a := by
  revert r b; decide
theorem ld_inb (r : Fin 4) (b : Fin 2) : ∀ a, (![r.val, b.val] : Fin 2 → Nat) a + S1x1.size a ≤ S4x2.size a := by revert r b; decide
theorem st_inb (r : Fin 4) (k : Fin 8) : ∀ a, (![r.val, k.val] : Fin 2 → Nat) a + S1x1.size a ≤ S4x8.size a := by revert r k; decide
theorem xf_inb (p : Fin 2) (r : Fin 4) (k : Fin 7) (d : Fin 2) :
    ∀ a, (![p.val, r.val, k.val, d.val] : Fin 4 → Nat) a + S1x1x1x1.size a ≤ S2x4x7x2.size a := by
  revert p r k d; decide

abbrev sbR (r : Fin 4) : Rect S4x512x512 := Rect.unit (s := S4x512x512) ![r.val, 0, 0] S1x512x512.size (sb_inb r)
abbrev rvR (r : Fin 4) (s : Fin 7) : Rect S4x7x512x512 := Rect.unit (s := S4x7x512x512) ![r.val, s.val, 0, 0] S1x1x512x512.size (rv_inb r s)
abbrev xsR (r : Fin 4) (b : Fin 2) : Rect S4x2x512x512 := Rect.unit (s := S4x2x512x512) ![r.val, b.val, 0, 0] S1x1x512x512.size (xs_inb r b)

theorem sb_packed (r : Fin 4) : (sbR r).PackedRows (EltTy.packing .bf16) := by
  match r with
  | 0 => exact packedbf16_S4x512x512_S1x512x512_0_0_0
  | 1 => exact packedbf16_S4x512x512_S1x512x512_1_0_0
  | 2 => exact packedbf16_S4x512x512_S1x512x512_2_0_0
  | 3 => exact packedbf16_S4x512x512_S1x512x512_3_0_0
theorem sb_words (r : Fin 4) : (sbR r).WholeWords (EltTy.packing .bf16) := by revert r; decide
theorem rv_words (r : Fin 4) (s : Fin 7) : (rvR r s).WholeWords (EltTy.packing .bf16) := by revert r s; decide
theorem g0_packed (r : Fin 4) (c : Dev nD) : (g0R r c).PackedRows (EltTy.packing .bf16) := by
  match r with
  | 0 => exact k0_off9_packedbf16 c
  | 1 => exact k0_off13_packedbf16 c
  | 2 => exact k0_off11_packedbf16 c
  | 3 => exact k0_off15_packedbf16 c
theorem g_words (r : Fin 4) (c : Dev nD) (k : Fin 8) : (gR r c k).WholeWords (EltTy.packing .bf16) := by
  match r with
  | 0 => exact k0_off10_wordsbf16 c k
  | 1 => exact k0_off14_wordsbf16 c k
  | 2 => exact k0_off12_wordsbf16 c k
  | 3 => exact k0_off16_wordsbf16 c k

/-- The pieces as memrefs: of the argument, of the result and of the gathered array; -/
def xM (r : Fin 4) (c : Dev nD) (j : Fin 8) : Memref sig .tc .hbm S512x512 .f32 :=
  ((Memref.whole main_arg0).slice (xR r c j) (fun _ => rfl)).squeeze S512x512 squeezes_S1x512x512_S512x512
def outM (r : Fin 4) (c : Dev nD) (k : Fin 8) : Memref sig .tc .hbm S512x512 .bf16 := (Memref.whole main_v1).slice (gR r c k) (fun _ => rfl)
def gtM (r : Fin 4) (c : Dev nD) (k : Fin 8) : Memref sig .tc .vmem S512x512 .bf16 := (Memref.whole cc0_scratch2).slice (gR r c k) (fun _ => rfl)
/-- the piece being sent, the places for received pieces and the two places for loaded pieces. -/
def sbM (r : Fin 4) : Memref sig .tc .vmem S512x512 .bf16 :=
  ((Memref.whole cc0_scratch0).slice (sbR r) (fun _ => rfl)).squeeze S512x512 squeezes_S1x512x512_S512x512
def rvM (r : Fin 4) (s : Fin 7) : Memref sig .tc .vmem S512x512 .bf16 :=
  ((Memref.whole cc0_scratch1).slice (rvR r s) (fun _ => rfl)).squeeze S512x512 squeezes_S1x1x512x512_S512x512
def xsM (r : Fin 4) (b : Fin 2) : Memref sig .tc .vmem S512x512 .f32 :=
  ((Memref.whole cc0_scratch3).slice (xsR r b) (fun _ => rfl)).squeeze S512x512 squeezes_S1x1x512x512_S512x512

/-- The semaphores: of a transfer, of a load, of a store. -/
def xfS (p : Fin 2) (r : Fin 4) (k : Fin 7) (d : Fin 2) : DmaSem sig :=
  ((cc0_scratch4.slice (Rect.unit (s := S2x4x7x2) ![p.val, r.val, k.val, d.val] S1x1x1x1.size (xf_inb p r k d))).squeeze S_ squeezes_S1x1x1x1_S_).sem
def ldS (r : Fin 4) (b : Fin 2) : DmaSem sig :=
  ((cc0_scratch5.slice (Rect.unit (s := S4x2) ![r.val, b.val] S1x1.size (ld_inb r b))).squeeze S_ squeezes_S1x1_S_).sem
def stS (r : Fin 4) (k : Fin 8) : DmaSem sig :=
  ((cc0_scratch6.slice (Rect.unit (s := S4x8) ![r.val, k.val] S1x1.size (st_inb r k))).squeeze S_ squeezes_S1x1_S_).sem

/-- The place that load `j` fills. -/
abbrev slot (j : Fin 8) : Fin 2 := ⟨j.val % 2, Nat.mod_lt _ (by decide)⟩

theorem xM_words (r : Fin 4) (c : Dev nD) (j : Fin 8) : (xM r c j).view.WordExact := (View.wordExact_bits rfl).reshape _ _
theorem xsM_words (r : Fin 4) (b : Fin 2) : (xsM r b).view.WordExact := (View.wordExact_bits rfl).reshape _ _
theorem sbM_words (r : Fin 4) : (sbM r).view.WordExact := ((Memref.isWhole_whole cc0_scratch0).wordExact_slice rfl _ (sb_words r)).reshape _ _
theorem rvM_words (r : Fin 4) (s : Fin 7) : (rvM r s).view.WordExact := ((Memref.isWhole_whole cc0_scratch1).wordExact_slice rfl _ (rv_words r s)).reshape _ _
theorem gtM_words (r : Fin 4) (c : Dev nD) (k : Fin 8) : (gtM r c k).view.WordExact := (Memref.isWhole_whole cc0_scratch2).wordExact_slice rfl _ (g_words r c k)
theorem outM_words (r : Fin 4) (c : Dev nD) (k : Fin 8) : (outM r c k).view.WordExact := (Memref.isWhole_whole main_v1).wordExact_slice rfl _ (g_words r c k)

theorem rvM_on (r : Fin 4) (s : Fin 7) : (rvM r s).view.ref.isScScratch = false := by
  show (cc0_scratch1 : Ref sig .tc).isScScratch = false
  rfl
theorem gtM_on (r : Fin 4) (c : Dev nD) (k : Fin 8) : (gtM r c k).view.ref.isScScratch = false := by
  show (cc0_scratch2 : Ref sig .tc).isScScratch = false
  rfl

/-! ## The blocks -/

/-- Start loading piece `j` of ring `r`; -/
def loadStart (r : Fin 4) (c : Dev nD) (j : Fin 8) : KP F PUnit :=
  Prog.lift (.enqueueDma (xM r c j) (.here (xsM r (slot j))) (.dma (ldS r (slot j))) (xM_words r c j) (xsM_words r (slot j)) ⟨Or.inl rfl, trivial⟩)

/-- wait for it. -/
def loadWait (r : Fin 4) (c : Dev nD) (j : Fin 8) : KP F PUnit :=
  Prog.lift (.waitDma2 (ldS r (slot j)) (xM r c j) (xsM r (slot j)) (xM_words r c j) (xsM_words r (slot j)))

/-- Store a piece into the place that is sent from. -/
def putSb (r : Fin 4) (v : FVec F S512x512 .bf16) : KP F PUnit := do
  let _ : Vec F S1x512x512 .bf16 ← Prog.lift (.load (Memref.whole cc0_scratch0) (sbR r).toLoadRect (View.loadsAt_vmem h_S1x512x512))
  Prog.lift (.store (Memref.whole cc0_scratch0) (sbR r) (shapeCast S1x512x512 v shapeCasts_S512x512_S1x512x512 : FVec F S1x512x512 .bf16) Finset.univ
    (View.stores_vmem h_S1x512x512 ((Memref.isWhole_whole cc0_scratch0).storeExact_slice rfl _ (sb_packed r)) (fun _ => rfl)) (.inl rfl))

/-- A loaded piece, rounded to the width that travels. -/
def cut (w : Vec F S1x1x512x512 .f32) : FVec F S512x512 .bf16 :=
  truncf .bf16 (shapeCast S512x512 w shapeCasts_S1x1x512x512_S512x512 : FVec F S512x512 .f32) bitsLt_bf16_f32

/-- The first piece of ring `r` into the place that is sent from; -/
def first (r : Fin 4) (c : Dev nD) : KP F PUnit := do
  let w : Vec F S1x1x512x512 .f32 ← Prog.lift (.load (Memref.whole cc0_scratch3) (xsR r 0).toLoadRect (View.loadsAt_vmem h_S1x1x512x512))
  putSb r (cut w)

/-- a received piece plus the loaded piece `s + 1` into it. -/
def add (r : Fin 4) (c : Dev nD) (s : Fin 7) : KP F PUnit := do
  let v : Vec F S1x1x512x512 .bf16 ← Prog.lift (.load (Memref.whole cc0_scratch1) (rvR r s).toLoadRect (View.loadsAt_vmem h_S1x1x512x512))
  let w : Vec F S1x1x512x512 .f32 ← Prog.lift (.load (Memref.whole cc0_scratch3) (xsR r (slot s.succ)).toLoadRect (View.loadsAt_vmem h_S1x1x512x512))
  putSb r (addf (shapeCast S512x512 v shapeCasts_S1x1x512x512_S512x512 : FVec F S512x512 .bf16) (cut w))

section
attribute [local irreducible] rvM gtM sbM dst xfS

/-- Send the place that is sent from, at step `s`; -/
def rsStart (r : Fin 4) (c : Dev nD) (s : Fin 7) : KP F PUnit :=
  Prog.lift (.enqueueDma (sbM r) (.remote (Dev.tc (dst r c)) (rvM r s) (.dma (xfS 0 r s 0)) (rvM_on r s)) (.dma (xfS 0 r s 1)) (sbM_words r) (rvM_words r s) ⟨⟨rfl, Or.inl rfl⟩, trivial⟩)

end

/-- wait until it is read, -/
def rsSent (r : Fin 4) (s : Fin 7) : KP F PUnit :=
  Prog.lift (.waitDma2 (xfS 0 r s 0) (rvM r s) (sbM r) (rvM_words r s) (sbM_words r))

/-- and until the piece from the other side is here. -/
def rsRecv (r : Fin 4) (s : Fin 7) : KP F PUnit :=
  Prog.lift (.waitDma2 (xfS 0 r s 1) (sbM r) (rvM r s) (sbM_words r) (rvM_words r s))

/-- The finished piece of ring `r` into the gathered array. -/
def keep (r : Fin 4) (c : Dev nD) : KP F PUnit := do
  let v : Vec F S1x512x512 .bf16 ← Prog.lift (.load (Memref.whole cc0_scratch0) (sbR r).toLoadRect (View.loadsAt_vmem h_S1x512x512))
  let _ : Vec F S512x512 .bf16 ← Prog.lift (.load (Memref.whole cc0_scratch2) (g0R r c).toLoadRect (View.loadsAt_vmem h_S512x512))
  Prog.lift (.store (Memref.whole cc0_scratch2) (g0R r c)
    (shapeCast S512x512 (shapeCast S512x512 v shapeCasts_S1x512x512_S512x512 : FVec F S512x512 .bf16) shapeCasts_S512x512_S512x512 : FVec F S512x512 .bf16) Finset.univ
    (View.stores_vmem h_S512x512 ((Memref.isWhole_whole cc0_scratch2).storeExact_slice rfl _ (g0_packed r c)) (fun _ => rfl)) (.inl rfl))

section
attribute [local irreducible] rvM gtM sbM dst xfS

/-- Send piece `t` of the gathered array on; -/
def agStart (r : Fin 4) (c : Dev nD) (t : Fin 7) : KP F PUnit :=
  Prog.lift (.enqueueDma (gtM r c t.castSucc) (.remote (Dev.tc (dst r c)) (gtM r c t.castSucc) (.dma (xfS 1 r t 0)) (gtM_on r c t.castSucc)) (.dma (xfS 1 r t 1))
    (gtM_words r c t.castSucc) (gtM_words r c t.castSucc) ⟨⟨rfl, Or.inl rfl⟩, trivial⟩)

end

/-- wait until it is read (`d = 0`), or until the next one is here (`d = 1`). -/
def agWait (r : Fin 4) (c : Dev nD) (t : Fin 7) (d : Fin 2) : KP F PUnit :=
  Prog.lift (.waitDma2 (xfS 1 r t d) (gtM r c t.castSucc) (gtM r c t.castSucc) (gtM_words r c t.castSucc) (gtM_words r c t.castSucc))

/-- Copy piece `k` of the gathered array to the result; -/
def outStart (r : Fin 4) (c : Dev nD) (k : Fin 8) : KP F PUnit :=
  Prog.lift (.enqueueDma (gtM r c k) (.here (outM r c k)) (.dma (stS r k)) (gtM_words r c k) (outM_words r c k) ⟨Or.inl rfl, trivial⟩)

/-- wait for it. -/
def outWait (r : Fin 4) (c : Dev nD) (k : Fin 8) : KP F PUnit :=
  Prog.lift (.waitDma2 (stS r k) (gtM r c k) (outM r c k) (gtM_words r c k) (outM_words r c k))

/-- The handshake with both neighbours. -/
def shake (c : Dev nD) : List (KP F PUnit) :=
  [semSignalWord (⟨k0_dev1 c, k0_dev1_lt c⟩ : Dev nD) (SemArray.scalar (sig.barrier 0 rfl) : Sems sig S_).sem 1#32,
   semSignalWord (⟨k0_dev2 c, k0_dev2_lt c⟩ : Dev nD) (SemArray.scalar (sig.barrier 0 rfl) : Sems sig S_).sem 1#32,
   semWaitWord (SemArray.scalar (sig.barrier 0 rfl) : Sems sig S_).sem 2#32]

/-! ## The list -/

/-- One block after another. -/
def seqL : List (KP F PUnit) → KP F PUnit
  | [] => .ret ⟨⟩
  | p :: l => p >>= fun _ => seqL l

/-- One row of blocks for each ring, in the order the kernel takes the rings. -/
def rings (f : Fin 4 → List (KP F PUnit)) : List (KP F PUnit) := f 0 ++ f 2 ++ f 1 ++ f 3

def startRow (c : Dev nD) (r : Fin 4) : List (KP F PUnit) := [loadWait r c 0, first r c, rsStart r c 0]

def rsRow (c : Dev nD) (s : Fin 6) (r : Fin 4) : List (KP F PUnit) :=
  [loadStart r c s.succ.succ, rsSent r s.castSucc, rsRecv r s.castSucc, loadWait r c s.castSucc.succ, add r c s.castSucc, rsStart r c s.succ]

def turnRow (c : Dev nD) (r : Fin 4) : List (KP F PUnit) :=
  [rsSent r 6, rsRecv r 6, loadWait r c 7, add r c 6, keep r c, agStart r c 0, outStart r c 0]

def agRow (c : Dev nD) (t : Fin 6) (r : Fin 4) : List (KP F PUnit) :=
  [agWait r c t.castSucc 0, agWait r c t.castSucc 1, agStart r c t.succ, outStart r c t.castSucc.succ]

def lastRow (c : Dev nD) (r : Fin 4) : List (KP F PUnit) := [agWait r c 6 0, agWait r c 6 1, outStart r c 7]

def script (c : Dev nD) : KP F PUnit := seqL (
  ([0, 1, 2, 3].map fun r => loadStart r c 0) ++ ([0, 1, 2, 3].map fun r => loadStart r c 1) ++ shake c
  ++ rings (startRow c)
  ++ rings (rsRow c 0) ++ rings (rsRow c 1) ++ rings (rsRow c 2) ++ rings (rsRow c 3) ++ rings (rsRow c 4) ++ rings (rsRow c 5)
  ++ rings (turnRow c)
  ++ rings (agRow c 0) ++ rings (agRow c 1) ++ rings (agRow c 2) ++ rings (agRow c 3) ++ rings (agRow c 4) ++ rings (agRow c 5)
  ++ rings (lastRow c)
  ++ [0, 1, 2, 3, 4, 5, 6, 7].flatMap fun k => rings fun r => [outWait r c k])

/-! ## The printed function is the list -/

/-- Two programs with the same first operation are the same if what follows is. -/
theorem op_same {α β : Type} {e : TpuEff nD τ sig (Elt F) Λ₀ .tc β} {k k' : β → KP F α} (h : ∀ x, k x = k' x) : Prog.op e k = Prog.op e k' :=
  congrArg (Prog.op e) (funext h)

end Cert.KernelIdeal.AR

end
-- ==== Proof.Plan.lean ====
module

public import proofs.«01_k».proof.Proof.Script
public import proofs.«01_k».proof.Proof.Gen.KernelIdeal.Launch
public import Idealize.ShloMosaic.Lib.Pipeline.Launch
public import Idealize.ShloMosaic.Lib.Pipeline.Kit
public import Idealize.ShloMosaic.Lib.Tactic

/-! Where the pieces are, what they hold, and the semaphores.

    Ring `r` (a quarter of the columns) passes pieces (an eighth of the rows) on to the next device `nx r c`. At step `s`
    of the first phase device `c` sends the partial sum `part r c s` of the rows `sh r c s`; at step `t` of the second it
    sends the finished rows `sh r c (t + 7)`. -/

@[expose] public section

noncomputable section

namespace Cert.KernelIdeal.AR

open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds
open Cert.KernelIdeal Cert.KernelIdeal.Gen

variable {F : FTy → Type} [FloatOps F]

/-! ## Devices and offsets -/

set_option backward.proofsInPublic true in
/-- The device ring `r` sends to, -/
def nx (r : Fin 4) (c : Dev nD) : Dev nD := ⟨(c.val + if r.val < 2 then 1 else 7) % 8, Nat.mod_lt _ (by decide)⟩
set_option backward.proofsInPublic true in
/-- and the one it receives from. -/
def pv (r : Fin 4) (c : Dev nD) : Dev nD := ⟨(c.val + if r.val < 2 then 7 else 1) % 8, Nat.mod_lt _ (by decide)⟩

theorem pv_nx (r : Fin 4) (c : Dev nD) : pv r (nx r c) = c := by revert r c; decide
theorem nx_pv (r : Fin 4) (c : Dev nD) : nx r (pv r c) = c := by revert r c; decide

/-- The rows (eighths) that device `c` handles in ring `r` at step `j`. -/
def sh (r : Fin 4) (c : Dev nD) (j : ℕ) : ℕ := (c.val + if r.val < 2 then 7 * j else j) % 8

theorem sh_nx (r : Fin 4) (c : Dev nD) (j : ℕ) : sh r (nx r c) (j + 1) = sh r c j := by
  unfold sh nx; dsimp only; split <;> omega
theorem sh_lt (r : Fin 4) (c : Dev nD) (j : ℕ) : sh r c j < 8 := Nat.mod_lt _ (by decide)

set_option maxRecDepth 10000 in
theorem offX_eq (r : Fin 4) (c : Dev nD) (j : Fin 8) : offX r c j = ![0, 512 * sh r c j.val, 512 * r.val] := by
  revert r c j; decide +kernel
set_option maxRecDepth 10000 in
theorem offG_eq (r : Fin 4) (c : Dev nD) (k : Fin 8) : offG r c k = ![512 * sh r c (k.val + 7), 512 * r.val] := by
  revert r c k; decide +kernel
set_option maxRecDepth 10000 in
theorem offG0_eq (r : Fin 4) (c : Dev nD) : offG0 r c = offG r c 0 := by revert r c; decide +kernel
theorem dst_eq (r : Fin 4) (c : Dev nD) : dst r c = nx r c := by revert r c; decide +kernel
theorem dev1_eq (c : Dev nD) : (⟨k0_dev1 c, k0_dev1_lt c⟩ : Dev nD) = nx 2 c := by revert c; decide +kernel
theorem dev2_eq (c : Dev nD) : (⟨k0_dev2 c, k0_dev2_lt c⟩ : Dev nD) = nx 0 c := by revert c; decide +kernel

theorem offG_nx (r : Fin 4) (c : Dev nD) (t : Fin 7) : offG r c t.castSucc = offG r (nx r c) t.succ := by
  rw [offG_eq, offG_eq]
  have : sh r (nx r c) (t.succ.val + 7) = sh r c (t.castSucc.val + 7) := by
    rw [show t.succ.val + 7 = (t.castSucc.val + 7) + 1 from by simp only [Fin.val_succ, Fin.val_castSucc]]
    exact sh_nx r c _
  rw [this]

theorem slice_off {κ : Kind} {sp : Space} {s : Shape} {e : EltTy} (m : Memref sig κ sp s e) {o o' : Fin s.rank → ℕ} (h : o = o') (n : Fin s.rank → ℕ)
    (ho : ∀ a, o a + n a ≤ s.size a) (ho' : ∀ a, o' a + n a ≤ s.size a) :
    m.slice (Rect.unit o n ho) (fun _ => rfl) = m.slice (Rect.unit o' n ho') (fun _ => rfl) := by subst h; rfl

/-- The place on the next device that step `t` of the second phase fills is that device's place for its next piece. -/
theorem gtM_nx (r : Fin 4) (c : Dev nD) (t : Fin 7) : gtM r c t.castSucc = gtM r (nx r c) t.succ :=
  slice_off _ (offG_nx r c t) _ _ _

/-! ## Contents -/

variable (m : (ℓ : Loc nD τ sig) → Buf (Elt F) ℓ)

/-- Piece `j` of ring `r` of device `c`'s argument, -/
def xblk (r : Fin 4) (c : Dev nD) (j : Fin 8) : FVec F S512x512 .f32 :=
  (xM r c j).view.read (Elt F) (m ((c.tc : Thread nD τ).loc main_arg0))

/-- rounded. -/
def xcut (r : Fin 4) (c : Dev nD) (j : ℕ) : FVec F S512x512 .bf16 := truncf .bf16 (xblk m r c ⟨j % 8, Nat.mod_lt _ (by decide)⟩) bitsLt_bf16_f32

/-- The partial sum device `c` sends at step `s` of the first phase: what it received and its own piece; -/
def part (r : Fin 4) : Dev nD → ℕ → FVec F S512x512 .bf16
  | c, 0 => xcut m r c 0
  | c, s + 1 => addf (part r (pv r c) s) (xcut m r c (s + 1))

/-- the finished piece it sends at step `t` of the second. -/
def fin (r : Fin 4) : Dev nD → ℕ → FVec F S512x512 .bf16
  | c, 0 => part m r c 7
  | c, t + 1 => fin r (pv r c) t

/-! ## The semaphores -/

/-- The barrier semaphore; -/
abbrev barS : Sem sig := (SemArray.scalar (sig.barrier 0 rfl) : Sems sig S_).sem

/-- the kernel's own semaphores: of a transfer (phase, ring, step, read or landed), of a load, of a store; -/
abbrev Ox : Type := (Fin 2 × Fin 4 × Fin 7 × Fin 2) ⊕ (Fin 4 × Fin 2) ⊕ (Fin 4 × Fin 8)
/-- with the barrier. -/
abbrev Cx : Type := Option Ox

instance : DecidableEq Cx
  | none, none => .isTrue rfl
  | none, some _ => .isFalse fun h => by cases h
  | some _, none => .isFalse fun h => by cases h
  | some x, some y => if h : x = y then .isTrue (congrArg some h) else .isFalse fun e => h (Option.some.inj e)

abbrev oxf (p : Fin 2) (r : Fin 4) (k : Fin 7) (d : Fin 2) : Ox := .inl (p, r, k, d)
abbrev oload (r : Fin 4) (b : Fin 2) : Ox := .inr (.inl (r, b))
abbrev ostore (r : Fin 4) (k : Fin 8) : Ox := .inr (.inr (r, k))

def osem : Ox → SemLoc sig
  | .inl (p, r, k, d) => .dma (xfS p r k d)
  | .inr (.inl (r, b)) => .dma (ldS r b)
  | .inr (.inr (r, k)) => .dma (stS r k)
def csem : Cx → SemLoc sig
  | none => .reg barS
  | some x => osem x

/-- The place of a semaphore among the kernel's own. -/
def onum : Ox → ℕ
  | .inl (p, r, k, d) => ((p.val * 4 + r.val) * 7 + k.val) * 2 + d.val
  | .inr (.inl (r, b)) => 112 + (r.val * 2 + b.val)
  | .inr (.inr (r, k)) => 120 + (r.val * 8 + k.val)

theorem onum_inj : Function.Injective onum := by
  rintro (⟨p, r, k, d⟩ | ⟨r, b⟩ | ⟨r, k⟩) (⟨p', r', k', d'⟩ | ⟨r', b'⟩ | ⟨r', k'⟩) h <;> dsimp only [onum] at h
  · have h1 : p = p' := Fin.ext (by omega)
    have h2 : r = r' := Fin.ext (by omega)
    have h3 : k = k' := Fin.ext (by omega)
    have h4 : d = d' := Fin.ext (by omega)
    subst h1 h2 h3 h4; rfl
  · exfalso; omega
  · exfalso; omega
  · exfalso; omega
  · have h2 : r = r' := Fin.ext (by omega)
    have h3 : b = b' := Fin.ext (by omega)
    subst h2 h3; rfl
  · exfalso; omega
  · exfalso; omega
  · exfalso; omega
  · have h2 : r = r' := Fin.ext (by omega)
    have h3 : k = k' := Fin.ext (by omega)
    subst h2 h3; rfl

theorem xfS_val (p : Fin 2) (r : Fin 4) (k : Fin 7) (d : Fin 2) : (xfS p r k d).val = ((p.val * 4 + r.val) * 7 + k.val) * 2 + d.val := by
  revert p r k d; decide +kernel
theorem ldS_val (r : Fin 4) (b : Fin 2) : (ldS r b).val = 112 + (r.val * 2 + b.val) := by revert r b; decide +kernel
theorem stS_val (r : Fin 4) (k : Fin 8) : (stS r k).val = 120 + (r.val * 8 + k.val) := by revert r k; decide +kernel

theorem osem_inj : Function.Injective osem := by
  have hv (x : Ox) : ∃ q : DmaSem sig, osem x = .dma q ∧ q.val = onum x := by
    rcases x with ⟨p, r, k, d⟩ | ⟨r, b⟩ | ⟨r, k⟩
    · exact ⟨_, rfl, xfS_val p r k d⟩
    · exact ⟨_, rfl, ldS_val r b⟩
    · exact ⟨_, rfl, stS_val r k⟩
  intro x y h
  obtain ⟨q, hq, hq'⟩ := hv x
  obtain ⟨w, hw, hw'⟩ := hv y
  rw [hq, hw] at h
  injection h with h
  exact onum_inj (by rw [← hq', ← hw', h])

theorem osem_ne_bar (x : Ox) : osem x ≠ .reg barS := by
  rcases x with ⟨p, r, k, d⟩ | ⟨r, b⟩ | ⟨r, k⟩ <;> exact fun h => by cases h

theorem csem_inj : Function.Injective csem := by
  rintro (_ | x) (_ | y) h
  · rfl
  · exact absurd h.symm (osem_ne_bar y)
  · exact absurd h (osem_ne_bar x)
  · exact congrArg some (osem_inj h)

/-- A device's semaphore. -/
abbrev kcell (ck : Dev nD × Cx) : GSem nD τ sig := ((ck.1.tc : Thread nD τ), csem ck.2)

theorem kcell_inj : Function.Injective kcell := by
  rintro ⟨c, x⟩ ⟨d, y⟩ h
  have h1 : c = d := congrArg (fun g : GSem nD τ sig => g.1.1) h
  have h2 : x = y := csem_inj (congrArg Prod.snd h)
  rw [h1, h2]

/-- Which of them a semaphore is. -/
def which (g : GSem nD τ sig) : Option (Dev nD × Cx) := by
  classical exact if h : ∃ x, kcell x = g then some h.choose else none

theorem which_kcell (x : Dev nD × Cx) : which (kcell x) = some x := by
  unfold which
  have h : ∃ y, kcell y = kcell x := ⟨x, rfl⟩
  rw [dif_pos h]
  exact congrArg some (kcell_inj h.choose_spec)

theorem kcell_which {g : GSem nD τ sig} {x : Dev nD × Cx} (h : which g = some x) : g = kcell x := by
  unfold which at h
  split at h
  · rename_i hx
    injection h with h
    rw [← h]
    exact hx.choose_spec.symm
  · cases h

end Cert.KernelIdeal.AR

end
-- ==== Proof.Sched.lean ====
module

public import proofs.«01_k».proof.Proof.Plan

/-! What each semaphore's rounds hand over, and the levels that keep the waits in order.

    * A load's semaphore has four rounds (its place is filled four times): the place with the loaded piece, and the piece.
    * A store's hands back the share of the gathered piece that was read, and the stored piece of the result.
    * A transfer's "read" semaphore hands back what was read; its "landed" semaphore hands the landed piece, with its contents.
    * The barrier takes one unit from each neighbour: the right one hands over its places for pieces of rings 0 and 1, the left
      one those of rings 2 and 3. -/

@[expose] public section

noncomputable section

namespace Cert.KernelIdeal.AR

open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds
open Cert.KernelIdeal Cert.KernelIdeal.Gen

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-- Device `c` holds a place, with contents `X`; -/
abbrev has (c : Dev nD) {sp : Space} {s : Shape} {e : EltTy} (b : Memref sig .tc sp s e) (q : PosShare TreeShare) (X : s.Idx → Elt F e) : sProp 𝕄 :=
  owns (c.tc : Thread nD τ) b q X
/-- with any contents. -/
abbrev any (c : Dev nD) {sp : Space} {s : Shape} {e : EltTy} (b : Memref sig .tc sp s e) : sProp 𝕄 :=
  iprop(∃ X : s.Idx → Elt F e, has c b fullShare X)

/-- The units of a transfer, and of a load. -/
def NB : ℕ := (sbM 0).view.dmaCredit
def NL : ℕ := (xsM 0 0).view.dmaCredit
theorem NB_pos : 0 < NB := View.dmaCredit_pos _ (by decide)
theorem NL_pos : 0 < NL := View.dmaCredit_pos _ (by decide)

/-- A transfer: phase, ring, step. -/
abbrev Tr : Type := Fin 2 × Fin 4 × Fin 7

/-- Where transfer `x` lands on device `c`. -/
def land (c : Dev nD) (x : Tr) : sProp 𝕄 := match x with
  | (0, r, k) => any c (rvM r k)
  | (1, r, k) => any c (gtM r c k.succ)

/-- What device `c`'s barrier receives: from the right the places of rings 0 and 1, from the left those of rings 2 and 3. -/
def side (d : Bool) : Finset Tr := Finset.univ.filter fun x => (decide (2 ≤ x.2.1.val)) = d
def barPay (c : Dev nD) (d : Bool) : sProp 𝕄 := bigSep (side d) fun x => land (nx x.2.1 c) x

/-- The piece a round of a load's place holds. -/
def piece (b : Fin 2) (n : ℕ) : Fin 8 := ⟨(2 * n + b.val) % 8, Nat.mod_lt _ (by decide)⟩

/-- What the rounds of each semaphore of device `c` hand over. -/
def pay (c : Dev nD) : Cx → ℕ → Bool → sProp 𝕄
  | none, _, d => barPay c d
  | some (.inl (0, r, k, 0)), _, _ => any c (sbM r)
  | some (.inl (1, r, k, 0)), _, _ => has c (gtM r c k.castSucc) fullShare.left (fin m r c k.val)
  | some (.inl (0, r, k, 1)), _, _ => has c (rvM r k) fullShare (part m r (pv r c) k.val)
  | some (.inl (1, r, k, 1)), _, _ => has c (gtM r c k.succ) fullShare (fin m r c (k.val + 1))
  | some (.inr (.inl (r, b))), n, _ =>
      iprop(has c (xsM r b) fullShare (xblk m r c (piece b n)) ∗ has c (xM r c (piece b n)) fullShare (xblk m r c (piece b n)))
  | some (.inr (.inr (r, k))), _, _ =>
      iprop(has c (outM r c k) fullShare (fin m r c k.val) ∗ has c (gtM r c k) fullShare.right (fin m r c k.val))

/-- Who pays, -/
def dut : Cx → ℕ → Finset Bool
  | none, n => if n = 0 then Finset.univ else ∅
  | some (.inr (.inl _)), n => if n < 4 then {false} else ∅
  | some _, n => if n = 0 then {false} else ∅
/-- how much, -/
def amt : Cx → ℕ
  | none => 1
  | some (.inr (.inl _)) => NL
  | some _ => NB
/-- and at which level. -/
def lvx : Cx → ℕ
  | none => 1
  | some (.inl (p, r, k, 1)) => 2 + (7 * p.val + k.val)
  | some _ => 0

theorem amt_pos (x : Cx) : 0 < amt x := by
  rcases x with _ | ⟨p, r, k, d⟩ | ⟨r, b⟩ | ⟨r, k⟩
  · exact Nat.one_pos
  · exact NB_pos
  · exact NL_pos
  · exact NB_pos

def Rd : Rounds.Schedule (GSem nD τ sig) Bool 𝕄 where
  duties g n := match which g with | none => ∅ | some (_, x) => dut x n
  unitless _ := False
  amount g _ _ := match which g with | none => 1 | some (_, x) => amt x
  payload g n d := match which g with | none => iprop(emp) | some (c, x) => pay m c x n d
  amount_pos g n d _ := by
    show 0 < (match which g with | none => 1 | some (_, x) => amt x)
    split
    · exact Nat.one_pos
    · exact amt_pos _

instance pay_storable (c : Dev nD) (x : Cx) (n : ℕ) (d : Bool) : BI.Storable (upEmb : UEmb _ 𝕄) (pay m c x n d) := by
  unfold pay barPay
  have hl (c : Dev nD) (x : Tr) : BI.Storable (upEmb : UEmb _ 𝕄) (land (F := F) c x) := by
    unfold land; split <;> infer_instance
  split <;> infer_instance

instance Rd_storable (g : GSem nD τ sig) (n : ℕ) (d : Bool) : BI.Storable (upEmb : UEmb _ 𝕄) ((Rd m).payload g n d) := by
  show BI.Storable upEmb (match which g with | none => iprop(emp) | some (c, x) => pay m c x n d)
  split <;> infer_instance

section
variable (c : Dev nD) (x : Cx) (n : ℕ) (d : Bool)

theorem duties_eq : (Rd m).duties (kcell (c, x)) n = dut x n := by dsimp only [Rd]; rw [which_kcell]
theorem amount_eq : (Rd m).amount (kcell (c, x)) n d = amt x := by dsimp only [Rd]; rw [which_kcell]
theorem payload_eq : (Rd m).payload (kcell (c, x)) n d = pay m c x n d := by dsimp only [Rd]; rw [which_kcell]
end

theorem duties_ld_later (c : Dev nD) (x : Cx) (n : ℕ) (h : 4 ≤ n) : (Rd m).duties (kcell (c, x)) n = ∅ := by
  rw [duties_eq]; unfold dut; split
  · exact if_neg (by omega)
  · exact if_neg (by omega)
  · exact if_neg (by omega)

/-- A semaphore with one payer in a round: what the round expects and hands over. -/
theorem expect_one (c : Dev nD) (x : Cx) (n : ℕ) (h : dut x n = {false}) : (Rd m).expect (kcell (c, x)) n = amt x := by
  unfold Schedule.expect Schedule.amountOf; rw [duties_eq, h, Finset.sum_singleton, amount_eq]
theorem rest_one (c : Dev nD) (x : Cx) (n : ℕ) (h : dut x n = {false}) :
    bigSep ((Rd m).duties (kcell (c, x)) n \ ∅) (fun d => (Rd m).payload (kcell (c, x)) n d) = pay m c x n false := by
  rw [Finset.sdiff_empty, duties_eq, h, bigSep_singleton, payload_eq]
theorem expect_bar (c : Dev nD) : (Rd m).expect (kcell (c, none)) 0 = 2 := by
  unfold Schedule.expect Schedule.amountOf
  rw [duties_eq, show dut none 0 = Finset.univ from rfl, Finset.sum_congr rfl fun d _ => amount_eq m c none 0 d]
  rfl
theorem rest_bar (c : Dev nD) :
    bigSep ((Rd m).duties (kcell (c, none)) 0 \ ∅) (fun d => (Rd m).payload (kcell (c, none)) 0 d) = iprop(barPay c false ∗ barPay c true) := by
  rw [Finset.sdiff_empty, duties_eq, show dut none 0 = Finset.univ from rfl, bigSep_univ_eq_bigSepL [false, true] (by decide) (by decide),
    bigSepL_cons_cons, bigSepL_singleton, payload_eq, payload_eq]
  rfl

/-! ## What is owed, and the levels -/

def L (g : GSem nD τ sig) : Finset Unit := if g.1.2 = .tc then {()} else ∅
def lv (g : GSem nD τ sig) (_ : Unit) : ℕ := match which g with | none => 0 | some (_, x) => lvx x

theorem L_of_ne (g : GSem nD τ sig) (h : g.1.2 ≠ .tc) : L g = ∅ := if_neg h
theorem L_cell (ck : Dev nD × Cx) : L (kcell ck) = {()} := if_pos rfl
theorem lv_cell (c : Dev nD) (x : Cx) : lv (kcell (c, x)) () = lvx x := by unfold lv; rw [which_kcell]

/-- The semaphore that says transfer `x` of device `c` has landed. -/
abbrev landCell (c : Dev nD) (x : Tr) : GSem nD τ sig := kcell (nx x.2.1 c, some (oxf x.1 x.2.1 x.2.2 1))
/-- Its level. -/
def lvT (x : Tr) : ℕ := 2 + (7 * x.1.val + x.2.2.val)
theorem lv_land (c : Dev nD) (x : Tr) : lv (landCell c x) () = lvT x := by rw [lv_cell]; rfl

/-- What device `c` owes when the transfers `l` are still to come. -/
def owe (c : Dev nD) : List Tr → CellTallies nD τ sig Unit
  | [] => 0
  | x :: l => owe c l + tallyAt (landCell c x) () NB

theorem owe_pos (c : Dev nD) (l : List Tr) {g : GSem nD τ sig} {u : Unit} (h : 0 < owe c l g u) : ∃ x ∈ l, g = landCell c x := by
  induction l with
  | nil => exact absurd h (Nat.lt_irrefl 0)
  | cons x l ih =>
    unfold owe at h
    rw [Pi.add_apply, Finsupp.add_apply, tallyAt_apply] at h
    by_cases hg : g = landCell c x ∧ u = ()
    · exact ⟨x, List.mem_cons_self, hg.1⟩
    · rw [if_neg hg, Nat.add_zero] at h
      obtain ⟨y, hy, e⟩ := ih h
      exact ⟨y, List.mem_cons_of_mem _ hy, e⟩

/-- A wait whose level is below those of the transfers still to come. -/
theorem mayWait (c : Dev nD) (x : Cx) (l : List Tr) (h : ∀ y ∈ l, lvx x < lvT y) :
    (levAts L lv : sProp 𝕄) ⊢ MayWait (c : Thread nD τ) (csem x) () (owe c l) :=
  MayOwe.of_cut (L := L) (lev := lv) (lvx x)
    (fun p hp => by rw [Finset.mem_singleton.mp hp]; exact (L_cell (c, x)).symm ▸ Finset.mem_singleton_self _)
    (fun g u hg => by obtain ⟨y, _, e⟩ := owe_pos c l hg; rw [e, L_cell]; exact Finset.mem_singleton_self _)
    (fun p hp => by rw [Finset.mem_singleton.mp hp]; exact le_of_eq (lv_cell c x))
    (fun g u hg => by obtain ⟨y, hy, e⟩ := owe_pos c l hg; rw [e]; exact (lv_land c y).symm ▸ h y hy)

end Cert.KernelIdeal.AR

end
-- ==== Proof.Machine.lean ====
module

public import proofs.«01_k».proof.Proof.Sched

/-! The state of a device as a table: for each place, transfer, load and store, how far it is. A block of the body is allowed in
    some states (`ok`) and leads to a next one (`next`); neither depends on the device, so that the whole list is checked by
    computation. -/

@[expose] public section

noncomputable section

namespace Cert.KernelIdeal.AR

open Idealize.ShloMosaic Idealize.ShloMosaic.TcCoe
open Cert.KernelIdeal Cert.KernelIdeal.Gen

variable {F : FTy → Type} [FloatOps F]

/-- A transfer: before the handshake; ready to be sent; sent; read; and the piece from the other side landed. -/
inductive Xs | early | idle | sent | read | here
  deriving DecidableEq
/-- The place that is sent from: in flight, free, holding partial sum `n`. -/
inductive Bs | gone | free | sum (n : ℕ)
  deriving DecidableEq
/-- A place for a loaded piece: in flight, free, holding piece `j`. -/
inductive Ps | gone | free | piece (j : Fin 8)
  deriving DecidableEq
/-- A load or store: not started, in flight, done. -/
inductive Ls | wait | fly | done
  deriving DecidableEq

/-- The state of a device. -/
structure St where
  xf : Tr → Xs
  todo : Option (List Tr)
  sb : Fin 4 → Bs
  g0 : Fin 4 → Bool
  gl : Fin 4 × Fin 8 → Bool
  gr : Fin 4 × Fin 8 → Bool
  xs : Fin 4 × Fin 2 → Ps
  ld : Fin 4 × Fin 8 → Ls
  lp : Fin 4 × Fin 2 → ℕ
  st : Fin 4 × Fin 8 → Ls

/-- The blocks. -/
inductive Blk
  | loadStart (r : Fin 4) (j : Fin 8)
  | loadWait (r : Fin 4) (j : Fin 8)
  | first (r : Fin 4)
  | add (r : Fin 4) (s : Fin 7)
  | rsStart (r : Fin 4) (s : Fin 7)
  | rsSent (r : Fin 4) (s : Fin 7)
  | rsRecv (r : Fin 4) (s : Fin 7)
  | keep (r : Fin 4)
  | agStart (r : Fin 4) (t : Fin 7)
  | agSent (r : Fin 4) (t : Fin 7)
  | agRecv (r : Fin 4) (t : Fin 7)
  | outStart (r : Fin 4) (k : Fin 8)
  | outWait (r : Fin 4) (k : Fin 8)

/-- A block's program on device `c`. -/
def code (c : Dev nD) : Blk → KP F PUnit
  | .loadStart r j => AR.loadStart r c j
  | .loadWait r j => AR.loadWait r c j
  | .first r => AR.first r c
  | .add r s => AR.add r c s
  | .rsStart r s => AR.rsStart r c s
  | .rsSent r s => AR.rsSent r s
  | .rsRecv r s => AR.rsRecv r s
  | .keep r => AR.keep r c
  | .agStart r t => AR.agStart r c t
  | .agSent r t => AR.agWait r c t 0
  | .agRecv r t => AR.agWait r c t 1
  | .outStart r k => AR.outStart r c k
  | .outWait r k => AR.outWait r c k

/-- All transfers still to come land above level `n`. -/
def above (n : ℕ) : Option (List Tr) → Prop
  | none => False
  | some l => ∀ y ∈ l, n < lvT y

instance (n : ℕ) (o : Option (List Tr)) : Decidable (above n o) := by
  unfold above; split <;> infer_instance

def ok : Blk → St → Prop
  | .loadStart r j, σ => σ.ld (r, j) = .wait ∧ σ.xs (r, slot j) = .free ∧ σ.lp (r, slot j) = j.val / 2
  | .loadWait r j, σ => σ.ld (r, j) = .fly ∧ σ.lp (r, slot j) = j.val / 2 ∧ above 0 σ.todo
  | .first r, σ => σ.xs (r, 0) = .piece 0 ∧ σ.sb r = .free
  | .add r s, σ => σ.xs (r, slot s.succ) = .piece s.succ ∧ σ.sb r = .free ∧ σ.xf (0, r, s) = .here
  | .rsStart r s, σ => σ.sb r = .sum s.val ∧ σ.xf (0, r, s) = .idle ∧ (σ.todo.bind List.head?) = some (0, r, s)
  | .rsSent r s, σ => σ.xf (0, r, s) = .sent ∧ above 0 σ.todo
  | .rsRecv r s, σ => σ.xf (0, r, s) = .read ∧ above (lvT (0, r, s)) σ.todo
  | .keep r, σ => σ.sb r = .sum 7 ∧ σ.g0 r = true
  | .agStart r t, σ => σ.gl (r, t.castSucc) = true ∧ σ.xf (1, r, t) = .idle ∧ (σ.todo.bind List.head?) = some (1, r, t)
  | .agSent r t, σ => σ.xf (1, r, t) = .sent ∧ above 0 σ.todo
  | .agRecv r t, σ => σ.xf (1, r, t) = .read ∧ above (lvT (1, r, t)) σ.todo
  | .outStart r k, σ => σ.gr (r, k) = true ∧ σ.st (r, k) = .wait
  | .outWait r k, σ => σ.st (r, k) = .fly ∧ above 0 σ.todo

instance (b : Blk) (σ : St) : Decidable (ok b σ) := by
  unfold ok; split <;> infer_instance

/-- A table with one entry changed. -/
def upd {I A : Type} [DecidableEq I] (f : I → A) (i : I) (a : A) : I → A := fun j => if j = i then a else f j
theorem upd_same {I A : Type} [DecidableEq I] (f : I → A) (i : I) (a : A) : upd f i a i = a := if_pos rfl
theorem upd_other {I A : Type} [DecidableEq I] (f : I → A) {i j : I} (a : A) (h : j ≠ i) : upd f i a j = f j := if_neg h

def next : Blk → St → St
  | .loadStart r j, σ => { σ with ld := upd σ.ld (r, j) .fly, xs := upd σ.xs (r, slot j) .gone }
  | .loadWait r j, σ => { σ with ld := upd σ.ld (r, j) .done, xs := upd σ.xs (r, slot j) (.piece j), lp := upd σ.lp (r, slot j) (j.val / 2 + 1) }
  | .first r, σ => { σ with xs := upd σ.xs (r, 0) .free, sb := upd σ.sb r (.sum 0) }
  | .add r s, σ => { σ with xs := upd σ.xs (r, slot s.succ) .free, sb := upd σ.sb r (.sum (s.val + 1)) }
  | .rsStart r s, σ => { σ with sb := upd σ.sb r .gone, xf := upd σ.xf (0, r, s) .sent, todo := σ.todo.map List.tail }
  | .rsSent r s, σ => { σ with sb := upd σ.sb r .free, xf := upd σ.xf (0, r, s) .read }
  | .rsRecv r s, σ => { σ with xf := upd σ.xf (0, r, s) .here }
  | .keep r, σ => { σ with sb := upd σ.sb r .free, g0 := upd σ.g0 r false, gl := upd σ.gl (r, 0) true, gr := upd σ.gr (r, 0) true }
  | .agStart r t, σ => { σ with gl := upd σ.gl (r, t.castSucc) false, xf := upd σ.xf (1, r, t) .sent, todo := σ.todo.map List.tail }
  | .agSent r t, σ => { σ with gl := upd σ.gl (r, t.castSucc) true, xf := upd σ.xf (1, r, t) .read }
  | .agRecv r t, σ => { σ with gl := upd σ.gl (r, t.succ) true, gr := upd σ.gr (r, t.succ) true, xf := upd σ.xf (1, r, t) .here }
  | .outStart r k, σ => { σ with gr := upd σ.gr (r, k) false, st := upd σ.st (r, k) .fly }
  | .outWait r k, σ => { σ with gr := upd σ.gr (r, k) true, st := upd σ.st (r, k) .done }

def oks : List Blk → St → Prop
  | [], _ => True
  | b :: l, σ => ok b σ ∧ oks l (next b σ)

instance oksDec : (l : List Blk) → (σ : St) → Decidable (oks l σ)
  | [], _ => .isTrue trivial
  | b :: l, σ => @instDecidableAnd _ _ inferInstance (oksDec l (next b σ))

def nexts : List Blk → St → St
  | [], σ => σ
  | b :: l, σ => nexts l (next b σ)

/-! ## The kernel's list -/

def rows (f : Fin 4 → List Blk) : List Blk := f 0 ++ f 2 ++ f 1 ++ f 3

/-- Up to the handshake; -/
def before : List Blk := ([0, 1, 2, 3].map fun r => .loadStart r 0) ++ ([0, 1, 2, 3].map fun r => .loadStart r 1)
def startB (r : Fin 4) : List Blk := [.loadWait r 0, .first r, .rsStart r 0]
def rsB (s : Fin 6) (r : Fin 4) : List Blk :=
  [.loadStart r s.succ.succ, .rsSent r s.castSucc, .rsRecv r s.castSucc, .loadWait r s.castSucc.succ, .add r s.castSucc, .rsStart r s.succ]
def turnB (r : Fin 4) : List Blk := [.rsSent r 6, .rsRecv r 6, .loadWait r 7, .add r 6, .keep r, .agStart r 0, .outStart r 0]
def agB (t : Fin 6) (r : Fin 4) : List Blk := [.agSent r t.castSucc, .agRecv r t.castSucc, .agStart r t.succ, .outStart r t.castSucc.succ]
def lastB (r : Fin 4) : List Blk := [.agSent r 6, .agRecv r 6, .outStart r 7]
/-- and after it. -/
def after : List Blk :=
  rows startB ++ rows (rsB 0) ++ rows (rsB 1) ++ rows (rsB 2) ++ rows (rsB 3) ++ rows (rsB 4) ++ rows (rsB 5)
  ++ rows turnB ++ rows (agB 0) ++ rows (agB 1) ++ rows (agB 2) ++ rows (agB 3) ++ rows (agB 4) ++ rows (agB 5)
  ++ rows lastB ++ [0, 1, 2, 3, 4, 5, 6, 7].flatMap fun k => rows fun r => [.outWait r k]

theorem map_rows (c : Dev nD) (f : Fin 4 → List Blk) : (rows f).map (code (F := F) c) = rings fun r => (f r).map (code c) := by
  unfold rows rings; simp only [List.map_append]
theorem map_start (c : Dev nD) : (fun r => (startB r).map (code (F := F) c)) = startRow c := rfl
theorem map_rs (c : Dev nD) (s : Fin 6) : (fun r => (rsB s r).map (code (F := F) c)) = rsRow c s := rfl
theorem map_turn (c : Dev nD) : (fun r => (turnB r).map (code (F := F) c)) = turnRow c := rfl
theorem map_ag (c : Dev nD) (t : Fin 6) : (fun r => (agB t r).map (code (F := F) c)) = agRow c t := rfl
theorem map_last (c : Dev nD) : (fun r => (lastB r).map (code (F := F) c)) = lastRow c := rfl
theorem map_out (c : Dev nD) (l : List (Fin 8)) : (l.flatMap fun k => rows fun r => [.outWait r k]).map (code (F := F) c)
    = l.flatMap fun k => rings fun r => [outWait r c k] := by
  rw [List.map_flatMap]
  exact congrArg (fun f => List.flatMap f l) (funext fun k => map_rows c _)
theorem map_before (c : Dev nD) : before.map (code (F := F) c) = ([0, 1, 2, 3].map fun r => loadStart r c 0) ++ ([0, 1, 2, 3].map fun r => loadStart r c 1) := rfl

theorem script_eq (c : Dev nD) : (script c : KP F PUnit) = seqL (before.map (code c) ++ (shake c ++ after.map (code c))) := by
  unfold script after
  simp only [List.map_append, map_rows, map_start, map_rs, map_turn, map_ag, map_last, map_out, map_before, List.append_assoc]

/-- The transfers in the order in which they are sent. -/
def order : List Tr :=
  (List.finRange 7).flatMap (fun s => [(0, 0, s), (0, 2, s), (0, 1, s), (0, 3, s)])
  ++ (List.finRange 7).flatMap (fun s => [(1, 0, s), (1, 2, s), (1, 1, s), (1, 3, s)])

/-- The state at the start, -/
def σ₀ : St where
  xf _ := .early
  todo := none
  sb _ := .free
  g0 _ := true
  gl _ := false
  gr _ := false
  xs _ := .free
  ld _ := .wait
  lp _ := 0
  st _ := .wait
/-- after the handshake, -/
def σ₁ : St := { nexts before σ₀ with xf := fun _ => .idle, todo := some order }
/-- and at the end. -/
def σ₂ : St := nexts after σ₁

theorem oks_before : oks before σ₀ := by decide +kernel
theorem xf_before : (nexts before σ₀).xf = fun _ => .early := rfl
theorem todo_before : (nexts before σ₀).todo = none := rfl
set_option maxRecDepth 100000 in
theorem oks_after : oks after σ₁ := by decide +kernel

theorem end_xf : ∀ x, σ₂.xf x = .here := by decide +kernel
theorem end_todo : σ₂.todo = some [] := by decide +kernel
theorem end_sb : ∀ x, σ₂.sb x = .free := by decide +kernel
theorem end_gl : ∀ x, σ₂.gl x = true := by decide +kernel
theorem end_gr : ∀ x, σ₂.gr x = true := by decide +kernel
theorem end_xs : ∀ x, σ₂.xs x = .free := by decide +kernel
theorem end_ld : ∀ x, σ₂.ld x = .done := by decide +kernel
theorem end_lp : ∀ x, σ₂.lp x = 4 := by decide +kernel
theorem end_st : ∀ x, σ₂.st x = .done := by decide +kernel

end Cert.KernelIdeal.AR

end
-- ==== Proof.Rules.lean ====
module

public import proofs.«01_k».proof.Proof.Machine
public import Idealize.ShloMosaic.Lib.Pipeline.Value

/-! The rules for the body's operations, in terms of the places a device holds. -/

@[expose] public section

noncomputable section

namespace Cert.KernelIdeal.AR

open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds Idealize.ShloMosaic.Pipeline
open Cert.KernelIdeal Cert.KernelIdeal.Gen

variable {F : FTy → Type} [FloatOps F]

local notation "𝕄" => MT nD τ sig Unit (Elt F) ℕ UU ℕ

abbrev 𝒱₀ : Variants := Variants.none

/-- Running `p` on device `c` ends in `Q`. -/
abbrev WP {α : Type} (c : Dev nD) (p : KP F α) (Q : α → sProp 𝕄) : sProp 𝕄 := wp frame (wpE (defs₀ (F := F)) 𝒱₀ (c : Thread nD τ) none) Set.univ p Q

/-! ## Places -/

section Places
variable (c : Dev nD) {sp : Space} {s s' : Shape} {e : EltTy} (q : PosShare TreeShare)

/-- A place without its unit axes is the place. -/
theorem owns_squeeze (b : Memref sig .tc sp s e) (h : s.Squeezes s') (h₁ : s'.ShapeCasts s) (h₂ : s.ShapeCasts s') (X : s'.Idx → Elt F e) :
    (has c (b.squeeze s' h) q X : sProp 𝕄) = has c b q (shapeCast s X h₁) := by
  have e₁ (f : b.view.ty.Contents (Elt F)) : (b.squeeze s' h).view.read (Elt F) f = X ↔ b.view.read (Elt F) f = shapeCast s X h₁ := by
    have e₀ : (b.squeeze s' h).view.read (Elt F) f = shapeCast s' (b.view.read (Elt F) f) h₂ := rfl
    rw [e₀]
    constructor
    · intro hx; rw [← hx, shapeCast_shapeCast]
    · intro hx; rw [hx, shapeCast_shapeCast]
  have e₂ : (b.squeeze s' h).view.set = b.view.set := View.set_reshape _ _
  show owns (c.tc : Thread nD τ) (b.squeeze s' h) q X = owns (c.tc : Thread nD τ) b q _
  unfold owns
  rw [e₂]
  exact congrArg _ (funext fun f => by rw [propext (e₁ f)])

/-- Contents that read `X` make the place hold `X`. -/
theorem has_mk (b : Memref sig .tc sp s e) {f : b.view.ty.Contents (Elt F)} {X : s.Idx → Elt F e} (h : b.view.read (Elt F) f = X) :
    (b.view.loc (c : Thread nD τ) ↦[b.view.set]{q} f : sProp 𝕄) ⊢ has c b q X := by
  subst h; exact owns_intro (c : Thread nD τ) b q f

end Places

variable {c : Dev nD}

/-- Loading a rectangle of a buffer that the device holds; -/
theorem load_part {α : Type} {cs : CoreSpace} {s : Shape} {e : EltTy} {b : Memref sig .tc cs s e} {r : Rect s} {hr : ∀ a, r.stride a = 1} {hl : b.view.LoadsAt r.toLoadRect}
    {k : (r.shape.Idx → Elt F e) → KP F α} {Q : α → sProp 𝕄} {q : PosShare TreeShare} {X : r.shape.Idx → Elt F e} :
    (has c (b.slice r hr) q X : sProp 𝕄) ⊢ iprop((has c (b.slice r hr) q X -∗ WP c (k X) Q) -∗ WP c (.op (.load b r.toLoadRect hl) k) Q) := by
  show owns (c.tc : Thread nD τ) (b.slice r hr) q X ⊢ _
  unfold owns
  iintro ⟨%f, %hf, H⟩
  iintro Hk
  iapply (wp_load_rect 𝒱₀ (c : Thread nD τ) none Set.univ (m := b) (r := r) (S := (b.access r).set) (Finset.Subset.refl _)) $$ [H]
  · iexact H
  iintro H
  rw [show (b.access r).read (Elt F) f = X from hf]
  iapply Hk
  iapply (has_mk c q (b.slice r hr) hf)
  iexact H

/-- storing to one. -/
theorem store_part {α : Type} {cs : CoreSpace} {s : Shape} {e : EltTy} {b : Memref sig .tc cs s e} {r : Rect s} {hr : ∀ a, r.stride a = 1}
    {w : r.shape.Idx → Elt F e} {hx : (b.access r).Stores Finset.univ} {hm : (Finset.univ : Finset r.shape.Idx) = Finset.univ ∨ ∀ a, r.stride a = 1}
    {k : PUnit → KP F α} {Q : α → sProp 𝕄} {X : r.shape.Idx → Elt F e} :
    (has c (b.slice r hr) fullShare X : sProp 𝕄) ⊢ iprop((has c (b.slice r hr) fullShare w -∗ WP c (k ⟨⟩) Q) -∗ WP c (.op (.store b r w Finset.univ hx hm) k) Q) := by
  show owns (c.tc : Thread nD τ) (b.slice r hr) fullShare X ⊢ _
  unfold owns
  iintro ⟨%f, %hf, H⟩
  iintro Hk
  iapply (wp_store 𝒱₀ (c : Thread nD τ) none Set.univ (m := b) (r := r) (Mk := Finset.univ) (S := (b.access r).set) (by rw [View.setOn_univ])) $$ [H]
  · iexact H
  iintro H
  iapply Hk
  iapply (has_mk c fullShare (b.slice r hr) (View.read_write_univ _ _))
  iexact H

variable (m : (ℓ : Loc nD τ sig) → Buf (Elt F) ℓ) (K : Dev nD × Cx → ℕ)

/-! ## Semaphores -/

/-- Device `c`'s own semaphore `x`. -/
abbrev cellO (c : Dev nD) (x : Ox) : GSem nD τ sig := kcell (c, some x)

/-- What all devices know: the protocol of every semaphore, that its first round has begun, and the levels. -/
def recs : sProp 𝕄 :=
  iprop(bigSep Finset.univ (fun ck : Dev nD × Cx => cellInv ER (Rd m) (K ck) (kcell ck))
    ∗ bigSep Finset.univ (fun ck : Dev nD × Cx => reached ER (kcell ck) 0) ∗ levAts L lv)

instance recs_persistent : BI.Persistent (recs m K) := by unfold recs; infer_instance

theorem all_elim {Φ : Dev nD × Cx → sProp 𝕄} (ck : Dev nD × Cx) : bigSep Finset.univ Φ ⊢ Φ ck := BI.bigSep_elim (Finset.mem_univ ck)

theorem recs_inv (ck : Dev nD × Cx) : recs m K ⊢ cellInv ER (Rd m) (K ck) (kcell ck) := by
  unfold recs
  iintro ⟨H, -, -⟩
  iapply (all_elim (Φ := fun ck : Dev nD × Cx => cellInv ER (Rd m) (K ck) (kcell ck)) ck)
  iexact H
theorem recs_reached (ck : Dev nD × Cx) : recs m K ⊢ reached ER (kcell ck) 0 := by
  unfold recs
  iintro ⟨-, H, -⟩
  iapply (all_elim (Φ := fun ck : Dev nD × Cx => reached (ER (F := F)) (kcell ck) 0) ck)
  iexact H
theorem recs_lev : recs m K ⊢ levAts L lv := by
  unfold recs
  iintro ⟨-, -, H⟩
  iexact H

/-- Device `c`'s semaphore is at round `n`. -/
def pos (g : GSem nD τ sig) (n : ℕ) : sProp 𝕄 := iprop(atPos ER g n ∅ 0 ∗ reached ER g n)
/-- The right to pay round `n` of a semaphore with one payer; -/
abbrev tok (g : GSem nD τ sig) (n : ℕ) : sProp 𝕄 := dutyTok ER g n false
/-- and the right to wait for it. -/
abbrev tick (c : Dev nD) (x : Ox) : sProp 𝕄 := cred (tallyAt (cellO c x) () (amt (some x)))

/-- What the device owes. -/
def todoA (c : Dev nD) : Option (List Tr) → sProp 𝕄
  | none => iprop(emp)
  | some l => iprop(∃ W, owes (c : Thread nD τ) (owe c l) W)

/-- A wait for a round with one payer. -/
theorem wait_one {Q : PUnit → sProp 𝕄} {w : TpuEff nD τ sig (Elt F) Λ₀ .tc PUnit} {k : PUnit → KP F PUnit} (x : Ox) (n : ℕ) (hn : dut (some x) n = {false})
    (hw : ∀ K : PUnit → sProp 𝕄, wpE (defs₀ (F := F)) 𝒱₀ (c : Thread nD τ) none Set.univ w K = waitSpec (c : Thread nD τ) Set.univ (osem x) (amt (some x)) K)
    {o : Option (List Tr)} (h : above (lvx (some x)) o) :
    iprop(recs m K ∗ tick c x ∗ todoA c o ∗ pos (cellO c x) n)
      ⊢ iprop(((todoA c o ∗ pos (cellO c x) (n + 1) ∗ pay m c (some x) n false) -∗ WP c (k ⟨⟩) Q) -∗ WP c (.op w k) Q) := by
  rcases o with _ | l
  · exact h.elim
  have hr : bigSep ((Rd m).duties ((c : Thread nD τ), osem x) n \ ∅) (fun d => (Rd m).payload ((c : Thread nD τ), osem x) n d) = pay m c (some x) n false :=
    rest_one m c (some x) n hn
  unfold todoA pos
  iintro ⟨#Hr, Ht, ⟨%W, HO⟩, ⟨Hp, -⟩⟩
  iintro Hk
  ihave #HI := (recs_inv m K (c, some x)) $$ Hr
  ihave #HL := (recs_lev m K) $$ Hr
  iapply (Rounds.wp_wait_rest_token 𝒱₀ ER (Rd m) (c : Thread nD τ) none (κ := K (c, some x)) hw (Set.mem_univ _) () (O := owe c l) (W := W) (R := n) (m := 0)
    (T := ∅) (by rw [Nat.zero_add]; exact (expect_one m c (some x) n hn).symm)) $$ [Ht HO Hp]
  · isplitr; · iexact HI
    isplitl [Ht]; · iexact Ht
    isplitl [HO]; · iexact HO
    isplitr; · iapply (mayWait c (some x) l h); iexact HL
    iexact Hp
  iintro ⟨HO, Hp, Hq, Hd⟩
  ihave Hd := (Entails.of_eq hr) $$ Hd
  iapply Hk
  isplitl [HO]; · iexists _; iexact HO
  isplitl [Hp Hq]
  · isplitl [Hp]; · iexact Hp
    iexact Hq
  iexact Hd

theorem pays (c : Dev nD) (x : Ox) (n : ℕ) (hn : dut (some x) n = {false}) : false ∈ (Rd m).duties (cellO c x) n := by
  rw [duties_eq, hn]; exact Finset.mem_singleton_self _

/-- A copy on the device itself, paying a round of one of its semaphores. -/
theorem copy_one {Q : PUnit → sProp 𝕄} {k : PUnit → KP F PUnit} {sp sp' : Space} {s : Shape} {e : EltTy} {src : Memref sig .tc sp s e} {dst : Memref sig .tc sp' s e} {sem : DmaSem sig}
    {hsrc : src.view.WordExact} {hdst : dst.view.WordExact} {hsem : DmaTarget.Typed (nD := nD) (τ := τ) (p := .tc) sp (.dma sem) (.here dst)}
    (x : Ox) (n : ℕ) (hI : recs m K ⊢ cellInv ER (Rd m) (K (c, some x)) ((c : Thread nD τ), .dma sem))
    (hd : false ∈ (Rd m).duties ((c : Thread nD τ), .dma sem) n) (N : ℕ) (hN : dst.view.dmaCredit = N) (ha : (Rd m).amount ((c : Thread nD τ), .dma sem) n false = N)
    (q : PosShare TreeShare) (X Y : s.Idx → Elt F e)
    (hpay : iprop(has c dst fullShare X ∗ has c src q X) ⊢ (Rd m).payload ((c : Thread nD τ), .dma sem) n false) :
    iprop(recs m K ∗ has c src q X ∗ has c dst fullShare Y ∗ tok ((c : Thread nD τ), .dma sem) n ∗ reached ER ((c : Thread nD τ), .dma sem) n)
      ⊢ iprop((cred (tallyAt ((c : Thread nD τ), .dma sem) () N) -∗ WP c (k ⟨⟩) Q) -∗ WP c (.op (.enqueueDma src (.here dst) (.dma sem) hsrc hdst hsem) k) Q) := by
  show iprop(recs m K ∗ owns (c : Thread nD τ) src q X ∗ owns (c : Thread nD τ) dst fullShare Y ∗ tok ((c : Thread nD τ), .dma sem) n
    ∗ reached ER ((c : Thread nD τ), .dma sem) n) ⊢ _
  unfold owns
  iintro ⟨#Hr, ⟨%f, %hf, Hs⟩, ⟨%g, %hg, Hd⟩, Ht, #Hq⟩
  iintro Hk
  ihave #HI := hI $$ Hr
  iapply (Rounds.wp_copy_pointsTo 𝒱₀ ER (Rd m) (c : Thread nD τ) none (κ := K (c, some x)) (src := src) (dst := dst) (r := n) (d := false) (fs := f) (fd := g) (q := q)
    hd () N hN ha ((BIClass.sep_mono (has_mk c fullShare dst ((View.read_write_univ _ _).trans hf)) (has_mk c q src hf)).trans hpay)) $$ [Hs Hd Ht]
  · isplitr; · iexact HI
    isplitl [Hs]; · iexact Hs
    isplitl [Hd]; · iexact Hd
    isplitl [Ht]; · iexact Ht
    iexact Hq
  iexact Hk

/-- A copy to the next device: it pays the first round of "read" here and of "landed" there. -/
theorem send_one {Q : PUnit → sProp 𝕄} {k : PUnit → KP F PUnit} {sp sp' : Space} {s : Shape} {e : EltTy} {src : Memref sig .tc sp s e} {dst : Memref sig .tc sp' s e} (c' : Dev nD)
    {hsc : dst.view.ref.isScScratch = false}
    (p : Fin 2) (r : Fin 4) (t : Fin 7) (hc : c' = nx r c)
    {hsrc : src.view.WordExact} {hdst : dst.view.WordExact}
    {hsem : DmaTarget.Typed sp (.dma (xfS p r t 1)) (.remote (Dev.tc c' : Thread nD τ) dst (.dma (xfS p r t 0)) hsc)}
    (hN : dst.view.dmaCredit = NB) (q : PosShare TreeShare) (X Y : s.Idx → Elt F e) (l : List Tr)
    (hpay₁ : has c src q X ⊢ pay m c (some (oxf p r t 0)) 0 false) (hpay₂ : has (nx r c) dst fullShare X ⊢ pay m (nx r c) (some (oxf p r t 1)) 0 false) :
    iprop(recs m K ∗ has c src q X ∗ has (nx r c) dst fullShare Y ∗ todoA c (some ((p, r, t) :: l)) ∗ tok (cellO c (oxf p r t 0)) 0 ∗ tok (cellO (nx r c) (oxf p r t 1)) 0)
      ⊢ iprop(((tick c (oxf p r t 0) ∗ todoA c (some l)) -∗ WP c (k ⟨⟩) Q)
          -∗ WP c (.op (.enqueueDma src (.remote (Dev.tc c' : Thread nD τ) dst (.dma (xfS p r t 0)) hsc) (.dma (xfS p r t 1)) hsrc hdst hsem) k) Q) := by
  subst hc
  show iprop(recs m K ∗ owns (c : Thread nD τ) src q X ∗ owns (nx r c : Thread nD τ) dst fullShare Y ∗ todoA c (some ((p, r, t) :: l)) ∗ tok (cellO c (oxf p r t 0)) 0
    ∗ tok (cellO (nx r c) (oxf p r t 1)) 0) ⊢ _
  unfold owns todoA
  iintro ⟨#Hr, ⟨%f, %hf, Hs⟩, ⟨%g, %hg, Hd⟩, ⟨%W, HO⟩, Ht, Ht'⟩
  iintro Hk
  ihave #HI := (recs_inv m K (c, some (oxf p r t 0))) $$ Hr
  ihave #HI' := (recs_inv m K (nx r c, some (oxf p r t 1))) $$ Hr
  ihave #Hq := (recs_reached m K (c, some (oxf p r t 0))) $$ Hr
  ihave #Hq' := (recs_reached m K (nx r c, some (oxf p r t 1))) $$ Hr
  iapply (Rounds.wp_send_pointsTo 𝒱₀ ER (Rd m) (c : Thread nD τ) none (κ₁ := K (c, some (oxf p r t 0))) (κ₂ := K (nx r c, some (oxf p r t 1)))
    (c' := (nx r c : Thread nD τ)) (src := src) (dst := dst) (r₁ := 0) (r₂ := 0) (d₁ := false) (d₂ := false) (fs := f) (fd := g) (q := q)
    (pays m c (oxf p r t 0) 0 rfl)
    (pays m (nx r c) (oxf p r t 1) 0 rfl)
    () () NB hN (amount_eq m c (some (oxf p r t 0)) 0 false) (amount_eq m (nx r c) (some (oxf p r t 1)) 0 false) (owe c l) rfl (W := W)
    ((has_mk c q src hf).trans (hpay₁.trans (Entails.of_eq (payload_eq m c (some (oxf p r t 0)) 0 false).symm)))
    ((has_mk (nx r c) fullShare dst (View.read_write_univ _ _)).trans (by rw [hf]; exact hpay₂.trans (Entails.of_eq (payload_eq m (nx r c) (some (oxf p r t 1)) 0 false).symm))))
    $$ [Hs Hd HO Ht Ht']
  · isplitr; · iexact HI
    isplitr; · iexact HI'
    isplitl [Hs]; · iexact Hs
    isplitl [Hd]; · iexact Hd
    isplitl [HO]; · iexact HO
    isplitl [Ht]; · iexact Ht
    isplitr; · iexact Hq
    isplitl [Ht']; · iexact Ht'
    iexact Hq'
  iintro ⟨Ht, HO⟩
  iapply Hk
  isplitl [Ht]; · iexact Ht
  iexists W; iexact HO

end Cert.KernelIdeal.AR

end
-- ==== Proof.Blocks.lean ====
module

public import proofs.«01_k».proof.Proof.Rules
public import Idealize.ShloMosaic.Lib.MemrefSat

/-! What a device holds in each state of the table, and the rule of each block. -/

@[expose] public section

noncomputable section

namespace Cert.KernelIdeal.AR

open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds Idealize.ShloMosaic.Pipeline
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Cx → ℕ)

/-! ## What is held -/

/-- Of a transfer that has not been sent: the rights to pay for it here and there, and to wait for both ends; -/
def unsent (c : Dev nD) (x : Tr) : sProp 𝕄 :=
  iprop(tok (cellO c (oxf x.1 x.2.1 x.2.2 0)) 0 ∗ tok (cellO (nx x.2.1 c) (oxf x.1 x.2.1 x.2.2 1)) 0
    ∗ pos (cellO c (oxf x.1 x.2.1 x.2.2 0)) 0 ∗ pos (cellO c (oxf x.1 x.2.1 x.2.2 1)) 0 ∗ tick c (oxf x.1 x.2.1 x.2.2 1))
/-- of one that has landed: in the first phase the landed piece (in the second it counts as a piece of the gathered array). -/
def got (c : Dev nD) : Tr → sProp 𝕄
  | (0, r, k) => has c (rvM r k) fullShare (part m r (pv r c) k.val)
  | (1, _, _) => iprop(emp)

def xfA (c : Dev nD) (x : Tr) : Xs → sProp 𝕄
  | .early => unsent c x
  | .idle => iprop(unsent c x ∗ land (nx x.2.1 c) x)
  | .sent => iprop(tick c (oxf x.1 x.2.1 x.2.2 0) ∗ pos (cellO c (oxf x.1 x.2.1 x.2.2 0)) 0 ∗ pos (cellO c (oxf x.1 x.2.1 x.2.2 1)) 0 ∗ tick c (oxf x.1 x.2.1 x.2.2 1))
  | .read => iprop(pos (cellO c (oxf x.1 x.2.1 x.2.2 0)) 1 ∗ pos (cellO c (oxf x.1 x.2.1 x.2.2 1)) 0 ∗ tick c (oxf x.1 x.2.1 x.2.2 1))
  | .here => iprop(pos (cellO c (oxf x.1 x.2.1 x.2.2 0)) 1 ∗ pos (cellO c (oxf x.1 x.2.1 x.2.2 1)) 1 ∗ got m c x)

def sbA (c : Dev nD) (r : Fin 4) : Bs → sProp 𝕄
  | .gone => iprop(emp)
  | .free => any c (sbM r)
  | .sum n => has c (sbM r) fullShare (part m r c n)
def g0A (c : Dev nD) (r : Fin 4) : Bool → sProp 𝕄
  | true => any c (gtM r c 0)
  | false => iprop(emp)
/-- A share of a piece of the gathered array. -/
def gtA (c : Dev nD) (q : PosShare TreeShare) (rk : Fin 4 × Fin 8) : Bool → sProp 𝕄
  | true => has c (gtM rk.1 c rk.2) q (fin m rk.1 c rk.2.val)
  | false => iprop(emp)
def xsA (c : Dev nD) (rb : Fin 4 × Fin 2) : Ps → sProp 𝕄
  | .gone => iprop(emp)
  | .free => any c (xsM rb.1 rb.2)
  | .piece j => has c (xsM rb.1 rb.2) fullShare (xblk m rb.1 c j)
def ldA (c : Dev nD) (rj : Fin 4 × Fin 8) : Ls → sProp 𝕄
  | .wait => iprop(tok (cellO c (oload rj.1 (slot rj.2))) (rj.2.val / 2) ∗ has c (xM rj.1 c rj.2) fullShare (xblk m rj.1 c rj.2))
  | .fly => tick c (oload rj.1 (slot rj.2))
  | .done => has c (xM rj.1 c rj.2) fullShare (xblk m rj.1 c rj.2)
def lpA (c : Dev nD) (rb : Fin 4 × Fin 2) (n : ℕ) : sProp 𝕄 := pos (cellO c (oload rb.1 rb.2)) n
def stA (c : Dev nD) (rk : Fin 4 × Fin 8) : Ls → sProp 𝕄
  | .wait => iprop(tok (cellO c (ostore rk.1 rk.2)) 0 ∗ pos (cellO c (ostore rk.1 rk.2)) 0 ∗ any c (outM rk.1 c rk.2))
  | .fly => iprop(tick c (ostore rk.1 rk.2) ∗ pos (cellO c (ostore rk.1 rk.2)) 0)
  | .done => iprop(pos (cellO c (ostore rk.1 rk.2)) 1 ∗ has c (outM rk.1 c rk.2) fullShare (fin m rk.1 c rk.2.val))

/-! ## The rules, block by block -/

theorem seqL_lift (e : TpuEff nD τ sig (Elt F) Λ₀ .tc PUnit) (l : List (KP F PUnit)) : seqL (Prog.lift e :: l) = .op e fun _ => seqL l := rfl

theorem piece_slot (j : Fin 8) : piece (slot j) (j.val / 2) = j := by revert j; decide
theorem dut_load (r : Fin 4) (j : Fin 8) : dut (some (oload r (slot j))) (j.val / 2) = {false} := if_pos (by omega)

theorem credit_xs (r : Fin 4) (b : Fin 2) : (xsM r b).view.dmaCredit = NL := rfl
theorem credit_sb (r : Fin 4) : (sbM r).view.dmaCredit = NB := rfl
theorem credit_rv (r : Fin 4) (s : Fin 7) : (rvM r s).view.dmaCredit = NB := rfl
theorem credit_gt (r : Fin 4) (c : Dev nD) (k : Fin 8) : (gtM r c k).view.dmaCredit = NB := rfl
theorem credit_out (r : Fin 4) (c : Dev nD) (k : Fin 8) : (outM r c k).view.dmaCredit = NB := rfl

theorem waits (c : Dev nD) {sp sp' : Space} {s s' : Shape} {e e' : EltTy} {sem : DmaSem sig} {src : Memref sig .tc sp s e} {dst : Memref sig .tc sp' s' e'}
    {hsrc : src.view.WordExact} {hdst : dst.view.WordExact} (x : Ox) (hx : osem x = .dma sem) (hN : dst.view.dmaCredit = amt (some x)) (K : PUnit → sProp 𝕄) :
    wpE (defs₀ (F := F)) 𝒱₀ (c : Thread nD τ) none Set.univ (.waitDma2 sem src dst hsrc hdst) K = waitSpec (c : Thread nD τ) Set.univ (osem x) (amt (some x)) K := by
  rw [hx, ← hN]
  exact wpE_waitDma2_eq 𝒱₀ (c : Thread nD τ) none Set.univ K

theorem cell_xf (c : Dev nD) (p : Fin 2) (r : Fin 4) (k : Fin 7) (d : Fin 2) : cellO c (oxf p r k d) = ((c : Thread nD τ), .dma (xfS p r k d)) := rfl
theorem cell_ld (c : Dev nD) (r : Fin 4) (b : Fin 2) : cellO c (oload r b) = ((c : Thread nD τ), .dma (ldS r b)) := rfl
theorem cell_st (c : Dev nD) (r : Fin 4) (k : Fin 8) : cellO c (ostore r k) = ((c : Thread nD τ), .dma (stS r k)) := rfl

/-! ## What the blocks are, operation by operation -/

theorem seqL_put (r : Fin 4) (v : FVec F S512x512 .bf16) (l : List (KP F PUnit)) :
    (putSb r v >>= fun _ => seqL l) = Prog.op (.load (Memref.whole cc0_scratch0) (sbR r).toLoadRect (View.loadsAt_vmem h_S1x512x512)) fun _ =>
      Prog.op (.store (Memref.whole cc0_scratch0) (sbR r) (shapeCast S1x512x512 v shapeCasts_S512x512_S1x512x512 : FVec F S1x512x512 .bf16) Finset.univ
        (View.stores_vmem h_S1x512x512 ((Memref.isWhole_whole cc0_scratch0).storeExact_slice rfl _ (sb_packed r)) (fun _ => rfl)) (.inl rfl)) fun _ => seqL l := rfl
theorem seqL_first (r : Fin 4) (c : Dev nD) (l : List (KP F PUnit)) :
    seqL (first r c :: l) = Prog.op (.load (Memref.whole cc0_scratch3) (xsR r 0).toLoadRect (View.loadsAt_vmem h_S1x1x512x512))
      fun w => putSb r (cut w) >>= fun _ => seqL l := rfl
theorem seqL_add (r : Fin 4) (c : Dev nD) (s : Fin 7) (l : List (KP F PUnit)) :
    seqL (add r c s :: l) = Prog.op (.load (Memref.whole cc0_scratch1) (rvR r s).toLoadRect (View.loadsAt_vmem h_S1x1x512x512)) fun (v : Vec F S1x1x512x512 .bf16) =>
      Prog.op (.load (Memref.whole cc0_scratch3) (xsR r (slot s.succ)).toLoadRect (View.loadsAt_vmem h_S1x1x512x512)) fun w =>
        putSb r (addf (shapeCast S512x512 v shapeCasts_S1x1x512x512_S512x512 : FVec F S512x512 .bf16) (cut w)) >>= fun _ => seqL l := rfl
theorem seqL_keep (r : Fin 4) (c : Dev nD) (l : List (KP F PUnit)) :
    seqL (keep r c :: l) = Prog.op (.load (Memref.whole cc0_scratch0) (sbR r).toLoadRect (View.loadsAt_vmem h_S1x512x512)) fun v =>
      Prog.op (.load (Memref.whole cc0_scratch2) (g0R r c).toLoadRect (View.loadsAt_vmem h_S512x512)) fun _ =>
        Prog.op (.store (Memref.whole cc0_scratch2) (g0R r c)
          (shapeCast S512x512 (shapeCast S512x512 v shapeCasts_S1x512x512_S512x512 : FVec F S512x512 .bf16) shapeCasts_S512x512_S512x512 : FVec F S512x512 .bf16) Finset.univ
          (View.stores_vmem h_S512x512 ((Memref.isWhole_whole cc0_scratch2).storeExact_slice rfl _ (g0_packed r c)) (fun _ => rfl)) (.inl rfl)) fun _ => seqL l := rfl

theorem sc_back : S512x512.ShapeCasts S1x1x512x512 := by decide

theorem has_sb (c : Dev nD) (q : PosShare TreeShare) (r : Fin 4) (X : S512x512.Idx → Elt F .bf16) :
    (has c (sbM r) q X : sProp 𝕄) = has c ((Memref.whole cc0_scratch0).slice (sbR r) (fun _ => rfl)) q (shapeCast S1x512x512 X shapeCasts_S512x512_S1x512x512) := by
  unfold sbM; exact owns_squeeze c q _ _ _ shapeCasts_S1x512x512_S512x512 X
theorem has_rv (c : Dev nD) (q : PosShare TreeShare) (r : Fin 4) (s : Fin 7) (X : S512x512.Idx → Elt F .bf16) :
    (has c (rvM r s) q X : sProp 𝕄) = has c ((Memref.whole cc0_scratch1).slice (rvR r s) (fun _ => rfl)) q (shapeCast S1x1x512x512 X sc_back) := by
  unfold rvM; exact owns_squeeze c q _ _ _ shapeCasts_S1x1x512x512_S512x512 X
theorem has_xs (c : Dev nD) (q : PosShare TreeShare) (r : Fin 4) (b : Fin 2) (X : S512x512.Idx → Elt F .f32) :
    (has c (xsM r b) q X : sProp 𝕄) = has c ((Memref.whole cc0_scratch3).slice (xsR r b) (fun _ => rfl)) q (shapeCast S1x1x512x512 X sc_back) := by
  unfold xsM; exact owns_squeeze c q _ _ _ shapeCasts_S1x1x512x512_S512x512 X
theorem gt_zero (r : Fin 4) (c : Dev nD) : gtM r c 0 = (Memref.whole cc0_scratch2).slice (g0R r c) (fun _ => rfl) := by
  unfold gtM; exact slice_off _ (offG0_eq r c).symm _ _ _

attribute [local irreducible] xM outM gtM sbM rvM xsM xfS ldS stS NB NL

variable {c : Dev nD} {l : List (KP F PUnit)}

/-- A part held whole is held in two halves. -/
theorem halves {sp : Space} {s : Shape} {e : EltTy} (b : Memref sig .tc sp s e) (X : s.Idx → Elt F e) :
    (has c b fullShare X : sProp 𝕄) ⊢ iprop(has c b fullShare.left X ∗ has c b fullShare.right X) :=
  (owns_halves (c : Thread nD τ) b fullShare X).1

theorem spec_loadStart {Q : PUnit → sProp 𝕄} (r : Fin 4) (j : Fin 8) :
    iprop(recs m K ∗ ldA m c (r, j) .wait ∗ xsA m c (r, slot j) .free ∗ lpA c (r, slot j) (j.val / 2))
      ⊢ iprop(((ldA m c (r, j) .fly ∗ lpA c (r, slot j) (j.val / 2)) -∗ WP c (seqL l) Q) -∗ WP c (seqL (loadStart r c j :: l)) Q) := by
  unfold loadStart
  rw [seqL_lift]
  simp only [ldA, xsA, lpA, pos]
  iintro ⟨#Hr, ⟨Ht, Hx⟩, ⟨%Y, Hs⟩, ⟨Hp, #Hq⟩⟩
  iintro Hk
  iapply (copy_one m K (oload r (slot j)) (j.val / 2) (recs_inv m K (c, some (oload r (slot j)))) (pays m c (oload r (slot j)) _ (dut_load r j)) NL (credit_xs r (slot j))
    (amount_eq m c (some (oload r (slot j))) _ false) fullShare (xblk m r c j) Y (by
      refine BI.Entails.trans ?_ (Entails.of_eq (payload_eq m c (some (oload r (slot j))) (j.val / 2) false).symm)
      show _ ⊢ iprop(has c (xsM r (slot j)) fullShare (xblk m r c (piece (slot j) (j.val / 2))) ∗ has c (xM r c (piece (slot j) (j.val / 2))) fullShare (xblk m r c (piece (slot j) (j.val / 2))))
      rw [piece_slot])) $$ [Ht Hx Hs]
  · iframe Hx Hs Ht
    isplitr
    · iexact Hr
    iexact Hq
  iintro Ht
  iapply Hk
  iframe Ht Hp
  iexact Hq

theorem spec_loadWait {Q : PUnit → sProp 𝕄} (r : Fin 4) (j : Fin 8) {o : Option (List Tr)} (h : above 0 o) :
    iprop(recs m K ∗ ldA m c (r, j) .fly ∗ lpA c (r, slot j) (j.val / 2) ∗ todoA c o)
      ⊢ iprop(((ldA m c (r, j) .done ∗ xsA m c (r, slot j) (.piece j) ∗ lpA c (r, slot j) (j.val / 2 + 1) ∗ todoA c o) -∗ WP c (seqL l) Q)
          -∗ WP c (seqL (loadWait r c j :: l)) Q) := by
  unfold loadWait
  rw [seqL_lift]
  simp only [ldA, xsA, lpA]
  iintro ⟨#Hr, Ht, Hp, HO⟩
  iintro Hk
  iapply (wait_one m K (oload r (slot j)) (j.val / 2) (dut_load r j) (waits c (oload r (slot j)) rfl (credit_xs r (slot j))) (o := o) h) $$ [Ht HO Hp]
  · iframe Ht HO Hp
    iexact Hr
  iintro ⟨HO, Hp, Hd⟩
  ihave Hd := (show pay m c (some (oload r (slot j))) (j.val / 2) false
    ⊢ iprop(has c (xsM r (slot j)) fullShare (xblk m r c j) ∗ has c (xM r c j) fullShare (xblk m r c j)) from Entails.of_eq (by
      show iprop(has c (xsM r (slot j)) fullShare (xblk m r c (piece (slot j) (j.val / 2))) ∗ has c (xM r c (piece (slot j) (j.val / 2))) fullShare (xblk m r c (piece (slot j) (j.val / 2)))) = _
      rw [piece_slot])) $$ Hd
  icases Hd with ⟨Hs, Hx⟩
  iapply Hk
  iframe

theorem spec_rsStart {Q : PUnit → sProp 𝕄} (r : Fin 4) (s : Fin 7) (o : List Tr) :
    iprop(recs m K ∗ sbA m c r (.sum s.val) ∗ xfA m c (0, r, s) .idle ∗ todoA c (some ((0, r, s) :: o)))
      ⊢ iprop(((xfA m c (0, r, s) .sent ∗ todoA c (some o)) -∗ WP c (seqL l) Q) -∗ WP c (seqL (rsStart r c s :: l)) Q) := by
  unfold rsStart
  rw [seqL_lift]
  simp only [sbA, xfA, unsent, land]
  iintro ⟨#Hr, Hs, ⟨⟨Ht, Ht', Hp, Hp', Hc⟩, ⟨%Y, Hd⟩⟩, HO⟩
  iintro Hk
  iapply (send_one m K (dst r c) 0 r s (dst_eq r c) (credit_rv r s) fullShare (part m r c s.val) Y o
    (by
      show _ ⊢ any c (sbM r)
      iintro H; iexists _; iexact H)
    (by
      show _ ⊢ has (nx r c) (rvM r s) fullShare (part m r (pv r (nx r c)) s.val)
      rw [pv_nx])) $$ [Hs Hd HO Ht Ht']
  · iframe Hs Hd HO Ht Ht'
    iexact Hr
  iintro ⟨Hc', HO⟩
  iapply Hk
  iframe

theorem spec_rsSent {Q : PUnit → sProp 𝕄} (r : Fin 4) (s : Fin 7) {o : Option (List Tr)} (h : above 0 o) :
    iprop(recs m K ∗ xfA m c (0, r, s) .sent ∗ todoA c o)
      ⊢ iprop(((xfA m c (0, r, s) .read ∗ sbA m c r .free ∗ todoA c o) -∗ WP c (seqL l) Q) -∗ WP c (seqL (rsSent r s :: l)) Q) := by
  unfold rsSent
  rw [seqL_lift]
  simp only [sbA, xfA]
  iintro ⟨#Hr, ⟨Hc, Hp, Hp', Hc'⟩, HO⟩
  iintro Hk
  iapply (wait_one m K (oxf 0 r s 0) 0 rfl (waits c (oxf 0 r s 0) rfl (credit_sb r)) (o := o) h) $$ [Hc HO Hp]
  · iframe Hc HO Hp
    iexact Hr
  iintro ⟨HO, Hp, Hd⟩
  ihave Hd := (show pay m c (some (oxf 0 r s 0)) 0 false ⊢ any c (sbM r) from BI.Entails.refl _) $$ Hd
  iapply Hk
  iframe

theorem spec_rsRecv {Q : PUnit → sProp 𝕄} (r : Fin 4) (s : Fin 7) {o : Option (List Tr)} (h : above (lvT (0, r, s)) o) :
    iprop(recs m K ∗ xfA m c (0, r, s) .read ∗ todoA c o)
      ⊢ iprop(((xfA m c (0, r, s) .here ∗ todoA c o) -∗ WP c (seqL l) Q) -∗ WP c (seqL (rsRecv r s :: l)) Q) := by
  unfold rsRecv
  rw [seqL_lift]
  simp only [xfA, got]
  iintro ⟨#Hr, ⟨Hp, Hp', Hc⟩, HO⟩
  iintro Hk
  iapply (wait_one m K (oxf 0 r s 1) 0 rfl (waits c (oxf 0 r s 1) rfl (credit_rv r s)) (o := o) h) $$ [Hc HO Hp']
  · iframe Hc HO Hp'
    iexact Hr
  iintro ⟨HO, Hp', Hd⟩
  ihave Hd := (show pay m c (some (oxf 0 r s 1)) 0 false ⊢ has c (rvM r s) fullShare (part m r (pv r c) s.val) from BI.Entails.refl _) $$ Hd
  iapply Hk
  iframe

theorem spec_agStart {Q : PUnit → sProp 𝕄} (r : Fin 4) (t : Fin 7) (o : List Tr) :
    iprop(recs m K ∗ gtA m c fullShare.left (r, t.castSucc) true ∗ xfA m c (1, r, t) .idle ∗ todoA c (some ((1, r, t) :: o)))
      ⊢ iprop(((xfA m c (1, r, t) .sent ∗ todoA c (some o)) -∗ WP c (seqL l) Q) -∗ WP c (seqL (agStart r c t :: l)) Q) := by
  unfold agStart
  rw [seqL_lift]
  simp only [gtA, xfA, unsent, land]
  iintro ⟨#Hr, Hs, ⟨⟨Ht, Ht', Hp, Hp', Hc⟩, Hl⟩, HO⟩
  ihave Hl := (show any (nx r c) (gtM r (nx r c) t.succ) ⊢ any (nx r c) (gtM r c t.castSucc) from by rw [gtM_nx]) $$ Hl
  icases Hl with ⟨%Y, Hd⟩
  iintro Hk
  iapply (send_one m K (dst r c) 1 r t (dst_eq r c) (credit_gt r c t.castSucc) fullShare.left (fin m r c t.val) Y o
    (BI.Entails.refl _)
    (by
      show _ ⊢ has (nx r c) (gtM r (nx r c) t.succ) fullShare (fin m r (pv r (nx r c)) t.val)
      rw [pv_nx, gtM_nx])) $$ [Hs Hd HO Ht Ht']
  · iframe Hs Hd HO Ht Ht'
    iexact Hr
  iintro ⟨Hc', HO⟩
  iapply Hk
  iframe

theorem spec_agSent {Q : PUnit → sProp 𝕄} (r : Fin 4) (t : Fin 7) {o : Option (List Tr)} (h : above 0 o) :
    iprop(recs m K ∗ xfA m c (1, r, t) .sent ∗ todoA c o)
      ⊢ iprop(((xfA m c (1, r, t) .read ∗ gtA m c fullShare.left (r, t.castSucc) true ∗ todoA c o) -∗ WP c (seqL l) Q) -∗ WP c (seqL (agWait r c t 0 :: l)) Q) := by
  unfold agWait
  rw [seqL_lift]
  simp only [gtA, xfA]
  iintro ⟨#Hr, ⟨Hc, Hp, Hp', Hc'⟩, HO⟩
  iintro Hk
  iapply (wait_one m K (oxf 1 r t 0) 0 rfl (waits c (oxf 1 r t 0) rfl (credit_gt r c t.castSucc)) (o := o) h) $$ [Hc HO Hp]
  · iframe Hc HO Hp
    iexact Hr
  iintro ⟨HO, Hp, Hd⟩
  ihave Hd := (show pay m c (some (oxf 1 r t 0)) 0 false ⊢ has c (gtM r c t.castSucc) fullShare.left (fin m r c t.castSucc.val) from BI.Entails.refl _) $$ Hd
  iapply Hk
  iframe

theorem spec_agRecv {Q : PUnit → sProp 𝕄} (r : Fin 4) (t : Fin 7) {o : Option (List Tr)} (h : above (lvT (1, r, t)) o) :
    iprop(recs m K ∗ xfA m c (1, r, t) .read ∗ todoA c o)
      ⊢ iprop(((xfA m c (1, r, t) .here ∗ gtA m c fullShare.left (r, t.succ) true ∗ gtA m c fullShare.right (r, t.succ) true ∗ todoA c o) -∗ WP c (seqL l) Q)
          -∗ WP c (seqL (agWait r c t 1 :: l)) Q) := by
  unfold agWait
  rw [seqL_lift]
  simp only [gtA, xfA, got]
  iintro ⟨#Hr, ⟨Hp, Hp', Hc⟩, HO⟩
  iintro Hk
  iapply (wait_one m K (oxf 1 r t 1) 0 rfl (waits c (oxf 1 r t 1) rfl (credit_gt r c t.castSucc)) (o := o) h) $$ [Hc HO Hp']
  · iframe Hc HO Hp'
    iexact Hr
  iintro ⟨HO, Hp', Hd⟩
  ihave Hd := (show pay m c (some (oxf 1 r t 1)) 0 false
    ⊢ iprop(has c (gtM r c t.succ) fullShare.left (fin m r c t.succ.val) ∗ has c (gtM r c t.succ) fullShare.right (fin m r c t.succ.val))
    from halves (gtM r c t.succ) (fin m r c t.succ.val)) $$ Hd
  icases Hd with ⟨Hl, Hg⟩
  iapply Hk
  iframe

theorem spec_outStart {Q : PUnit → sProp 𝕄} (r : Fin 4) (k : Fin 8) :
    iprop(recs m K ∗ gtA m c fullShare.right (r, k) true ∗ stA m c (r, k) .wait)
      ⊢ iprop((stA m c (r, k) .fly -∗ WP c (seqL l) Q) -∗ WP c (seqL (outStart r c k :: l)) Q) := by
  unfold outStart
  rw [seqL_lift]
  simp only [gtA, stA]
  iintro ⟨#Hr, Hs, ⟨Ht, Hp, ⟨%Y, Hd⟩⟩⟩
  iintro Hk
  ihave #Hq := (recs_reached m K (c, some (ostore r k))) $$ Hr
  iapply (copy_one m K (ostore r k) 0 (recs_inv m K (c, some (ostore r k))) (pays m c (ostore r k) 0 rfl) NB (credit_out r c k)
    (amount_eq m c (some (ostore r k)) _ false) fullShare.right (fin m r c k.val) Y
    (Entails.of_eq (payload_eq m c (some (ostore r k)) 0 false).symm)) $$ [Ht Hs Hd]
  · iframe Hs Hd Ht
    isplitr
    · iexact Hr
    iexact Hq
  iintro Ht
  ihave Ht := (show cred (tallyAt ((c : Thread nD τ), SemLoc.dma (stS r k)) () NB) ⊢ (tick c (ostore r k) : sProp 𝕄) from BI.Entails.refl _) $$ Ht
  iapply Hk
  iframe

theorem spec_outWait {Q : PUnit → sProp 𝕄} (r : Fin 4) (k : Fin 8) {o : Option (List Tr)} (h : above 0 o) :
    iprop(recs m K ∗ stA m c (r, k) .fly ∗ todoA c o)
      ⊢ iprop(((stA m c (r, k) .done ∗ gtA m c fullShare.right (r, k) true ∗ todoA c o) -∗ WP c (seqL l) Q) -∗ WP c (seqL (outWait r c k :: l)) Q) := by
  unfold outWait
  rw [seqL_lift]
  simp only [gtA, stA]
  iintro ⟨#Hr, ⟨Hc, Hp⟩, HO⟩
  iintro Hk
  iapply (wait_one m K (ostore r k) 0 rfl (waits c (ostore r k) rfl (credit_out r c k)) (o := o) h) $$ [Hc HO Hp]
  · iframe Hc HO Hp
    iexact Hr
  iintro ⟨HO, Hp, Hd⟩
  ihave Hd := (show pay m c (some (ostore r k)) 0 false
    ⊢ iprop(has c (outM r c k) fullShare (fin m r c k.val) ∗ has c (gtM r c k) fullShare.right (fin m r c k.val)) from BI.Entails.refl _) $$ Hd
  icases Hd with ⟨Hd, Hs⟩
  iapply Hk
  iframe

/-! ## The arithmetic blocks -/

/-- Storing a piece into the place that is sent from. -/
theorem put_one {Q : PUnit → sProp 𝕄} (r : Fin 4) (v : FVec F S512x512 .bf16) :
    (any c (sbM r) : sProp 𝕄) ⊢ iprop((has c (sbM r) fullShare v -∗ WP c (seqL l) Q) -∗ WP c (putSb r v >>= fun _ => seqL l) Q) := by
  rw [seqL_put]
  iintro ⟨%Y, H⟩
  ihave H := (Entails.of_eq (has_sb c fullShare r Y)) $$ H
  iintro Hk
  iapply (load_part (b := Memref.whole cc0_scratch0) (r := sbR r)) $$ H
  iintro H
  iapply (store_part (b := Memref.whole cc0_scratch0) (r := sbR r)) $$ H
  iintro H
  ihave H := (Entails.of_eq (has_sb c fullShare r v).symm) $$ H
  iapply Hk
  iexact H

theorem cut_eq (X : S512x512.Idx → Elt F .f32) : cut (F := F) (shapeCast S1x1x512x512 X sc_back) = truncf .bf16 X bitsLt_bf16_f32 := by
  unfold cut; rw [shapeCast_shapeCast]

theorem any_xs (r : Fin 4) (b : Fin 2) (X : S512x512.Idx → Elt F .f32) :
    has c ((Memref.whole cc0_scratch3).slice (xsR r b) (fun _ => rfl)) fullShare (shapeCast S1x1x512x512 X sc_back) ⊢ (any c (xsM r b) : sProp 𝕄) := by
  rw [← has_xs]
  iintro H; iexists _; iexact H

theorem any_sb (r : Fin 4) (X : S512x512.Idx → Elt F .bf16) :
    has c ((Memref.whole cc0_scratch0).slice (sbR r) (fun _ => rfl)) fullShare (shapeCast S1x512x512 X shapeCasts_S512x512_S1x512x512) ⊢ (any c (sbM r) : sProp 𝕄) := by
  rw [← has_sb]
  iintro H; iexists _; iexact H

/-- Loading a piece of the argument and storing what is made of it. -/
theorem load_xs {Q : PUnit → sProp 𝕄} (r : Fin 4) (b : Fin 2) (X : S512x512.Idx → Elt F .f32) (v : FVec F S512x512 .bf16)
    (f : Vec F S1x1x512x512 .f32 → FVec F S512x512 .bf16) (hv : f (shapeCast S1x1x512x512 X sc_back) = v) :
    iprop(has c (xsM r b) fullShare X ∗ any c (sbM r))
      ⊢ iprop(((any c (xsM r b) ∗ has c (sbM r) fullShare v) -∗ WP c (seqL l) Q)
        -∗ WP c (Prog.op (.load (Memref.whole cc0_scratch3) (xsR r b).toLoadRect (View.loadsAt_vmem h_S1x1x512x512)) fun w => putSb r (f w) >>= fun _ => seqL l) Q) := by
  iintro ⟨Hx, Hs⟩
  ihave Hx := (Entails.of_eq (has_xs c fullShare r b X)) $$ Hx
  iintro Hk
  iapply (load_part (b := Memref.whole cc0_scratch3) (r := xsR r b)) $$ Hx
  iintro Hx
  iapply (put_one r _) $$ Hs
  iintro Hs
  ihave Hs := (Entails.of_eq (congrArg (has c (sbM r) fullShare) hv)) $$ Hs
  ihave Hx := (any_xs r b X) $$ Hx
  iapply Hk
  iframe

theorem spec_first {Q : PUnit → sProp 𝕄} (r : Fin 4) :
    iprop(xsA m c (r, 0) (.piece 0) ∗ sbA m c r .free)
      ⊢ iprop(((xsA m c (r, 0) .free ∗ sbA m c r (.sum 0)) -∗ WP c (seqL l) Q) -∗ WP c (seqL (first r c :: l)) Q) := by
  rw [seqL_first]
  exact load_xs r 0 (xblk m r c 0) (part m r c 0) cut (cut_eq _)

theorem part_next (c : Dev nD) (r : Fin 4) (s : Fin 7) :
    part m r c (s.val + 1) = addf (part m r (pv r c) s.val) (truncf .bf16 (xblk m r c s.succ) bitsLt_bf16_f32) := by
  have h : (⟨(s.val + 1) % 8, Nat.mod_lt _ (by decide)⟩ : Fin 8) = s.succ := Fin.ext (Nat.mod_eq_of_lt (by omega))
  rw [part, xcut, h]

theorem spec_add {Q : PUnit → sProp 𝕄} (r : Fin 4) (s : Fin 7) :
    iprop(xfA m c (0, r, s) .here ∗ xsA m c (r, slot s.succ) (.piece s.succ) ∗ sbA m c r .free)
      ⊢ iprop(((xfA m c (0, r, s) .here ∗ xsA m c (r, slot s.succ) .free ∗ sbA m c r (.sum (s.val + 1))) -∗ WP c (seqL l) Q) -∗ WP c (seqL (add r c s :: l)) Q) := by
  rw [seqL_add]
  simp only [xsA, sbA, xfA, got]
  iintro ⟨⟨Hp, Hp', Hv⟩, Hx, Hs⟩
  ihave Hv := (Entails.of_eq (has_rv c fullShare r s (part m r (pv r c) s.val))) $$ Hv
  iintro Hk
  iapply (load_part (b := Memref.whole cc0_scratch1) (r := rvR r s)) $$ Hv
  iintro Hv
  ihave Hv := (Entails.of_eq (has_rv c fullShare r s (part m r (pv r c) s.val)).symm) $$ Hv
  iapply (load_xs r (slot s.succ) (xblk m r c s.succ) (part m r c (s.val + 1))
    (fun w => addf (shapeCast S512x512 (shapeCast S1x1x512x512 (part m r (pv r c) s.val) sc_back) shapeCasts_S1x1x512x512_S512x512 : FVec F S512x512 .bf16) (cut w))
    (by
      show addf (shapeCast S512x512 _ _ : FVec F S512x512 .bf16) (cut _) = _
      rw [cut_eq, shapeCast_shapeCast, part_next])) $$ [Hx Hs]
  · iframe
  iintro ⟨Hx, Hs⟩
  iapply Hk
  iframe

theorem g0_split (r : Fin 4) :
    has c ((Memref.whole cc0_scratch2).slice (g0R r c) (fun _ => rfl)) fullShare
        (shapeCast S512x512 (shapeCast S512x512 (shapeCast S1x512x512 (part m r c 7) shapeCasts_S512x512_S1x512x512) shapeCasts_S1x512x512_S512x512 : FVec F S512x512 .bf16) shapeCasts_S512x512_S512x512)
      ⊢ (iprop(has c (gtM r c 0) fullShare.left (fin m r c (0 : Fin 8).val) ∗ has c (gtM r c 0) fullShare.right (fin m r c (0 : Fin 8).val)) : sProp 𝕄) := by
  rw [shapeCast_shapeCast, shapeCast_self, ← gt_zero]
  exact halves (gtM r c 0) (part m r c 7)

theorem spec_keep {Q : PUnit → sProp 𝕄} (r : Fin 4) :
    iprop(sbA m c r (.sum 7) ∗ g0A c r true)
      ⊢ iprop(((sbA m c r .free ∗ gtA m c fullShare.left (r, 0) true ∗ gtA m c fullShare.right (r, 0) true) -∗ WP c (seqL l) Q) -∗ WP c (seqL (keep r c :: l)) Q) := by
  rw [seqL_keep]
  simp only [sbA, g0A, gtA]
  iintro ⟨Hs, ⟨%Y, Hg⟩⟩
  ihave Hg := (Entails.of_eq (congrArg (fun b => has c b fullShare Y) (gt_zero r c))) $$ Hg
  ihave Hs := (Entails.of_eq (has_sb c fullShare r (part m r c 7))) $$ Hs
  iintro Hk
  iapply (load_part (b := Memref.whole cc0_scratch0) (r := sbR r)) $$ Hs
  iintro Hs
  iapply (load_part (b := Memref.whole cc0_scratch2) (r := g0R r c)) $$ Hg
  iintro Hg
  iapply (store_part (b := Memref.whole cc0_scratch2) (r := g0R r c)) $$ Hg
  iintro Hg
  ihave Hg := (g0_split m r) $$ Hg
  icases Hg with ⟨Hl, Hg⟩
  ihave Hs := (any_sb r (part m r c 7)) $$ Hs
  iapply Hk
  iframe

end Cert.KernelIdeal.AR

end
-- ==== Proof.Lift.lean ====
module

public import proofs.«01_k».proof.Proof.Blocks

/-! The rules of the blocks, over the state of a device; and of a list of blocks. -/

@[expose] public section

noncomputable section

namespace Cert.KernelIdeal.AR

open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Cx → ℕ)

/-- One member of a family, taken out to be put back in another state; -/
theorem fam {I A : Type} [Fintype I] [DecidableEq I] (Φ : I → A → sProp 𝕄) (f : I → A) (i : I) (s a : A) (h : f i = s) :
    bigSep Finset.univ (fun j => Φ j (f j)) ⊢ iprop(Φ i s ∗ (Φ i a -∗ bigSep Finset.univ fun j => Φ j (upd f i a j))) := by
  subst h
  have e := bigSep_univ_update (Φ := fun j => Φ j (f j)) (Ψ := fun j => Φ j (upd f i a j)) i (fun j hj => by rw [upd_other f a hj])
  rw [upd_same] at e
  exact e
/-- or in the same. -/
theorem fam_same {I A : Type} [Fintype I] [DecidableEq I] (Φ : I → A → sProp 𝕄) (f : I → A) (i : I) (s : A) (h : f i = s) :
    bigSep Finset.univ (fun j => Φ j (f j)) ⊢ iprop(Φ i s ∗ (Φ i s -∗ bigSep Finset.univ fun j => Φ j (f j))) := by
  subst h
  exact bigSep_univ_update (Φ := fun j => Φ j (f j)) (Ψ := fun j => Φ j (f j)) i (fun j hj => rfl)

theorem head_todo {o : Option (List Tr)} {x : Tr} (h : o.bind List.head? = some x) : o = some (x :: (o.map List.tail).getD []) := by
  rcases o with _ | _ | ⟨y, l⟩
  · cases h
  · cases h
  · cases h; rfl
theorem tail_todo {o : Option (List Tr)} {x : Tr} (h : o.bind List.head? = some x) : o.map List.tail = some ((o.map List.tail).getD []) := by
  rcases o with _ | _ | ⟨y, l⟩
  · cases h
  · cases h
  · rfl

/-- What a device holds in state `σ`. -/
def Dv (c : Dev nD) (σ : St) : sProp 𝕄 :=
  iprop(bigSep Finset.univ (fun x => xfA m c x (σ.xf x)) ∗ todoA c σ.todo ∗ bigSep Finset.univ (fun r => sbA m c r (σ.sb r))
    ∗ bigSep Finset.univ (fun r => g0A c r (σ.g0 r)) ∗ bigSep Finset.univ (fun i => gtA m c fullShare.left i (σ.gl i))
    ∗ bigSep Finset.univ (fun i => gtA m c fullShare.right i (σ.gr i)) ∗ bigSep Finset.univ (fun i => xsA m c i (σ.xs i))
    ∗ bigSep Finset.univ (fun i => ldA m c i (σ.ld i)) ∗ bigSep Finset.univ (fun i => lpA c i (σ.lp i))
    ∗ bigSep Finset.univ (fun i => stA m c i (σ.st i)))

variable {c : Dev nD} {l : List (KP F PUnit)}

/-- A block, over the state. -/
theorem move {Q : PUnit → sProp 𝕄} (b : Blk) (σ : St) (h : ok b σ) :
    iprop(recs m K ∗ Dv m c σ) ⊢ iprop((Dv m c (next b σ) -∗ WP c (seqL l) Q) -∗ WP c (seqL (code c b :: l)) Q) := by
  cases b with
  | loadStart r j =>
    obtain ⟨h₁, h₂, h₃⟩ := h
    unfold Dv; dsimp only [next, code]
    iintro ⟨#Hr, Hxf, Ht, Hsb, Hg, Hgl, Hgr, Hxs, Hld, Hlp, Hst⟩
    iintro Hk
    ihave A := (fam (ldA m c) σ.ld (r, j) .wait .fly h₁) $$ Hld; icases A with ⟨A, Ka⟩
    ihave B := (fam (xsA m c) σ.xs (r, slot j) .free .gone h₂) $$ Hxs; icases B with ⟨B, Kb⟩
    ihave C := (fam_same (lpA c) σ.lp (r, slot j) (j.val / 2) h₃) $$ Hlp; icases C with ⟨C, Kc⟩
    iapply (spec_loadStart m K r j) $$ [A B C]
    · iframe A B C; iexact Hr
    iintro ⟨A, C⟩
    ihave Hld := Ka $$ A
    ihave Hlp := Kc $$ C
    iapply Hk
    iframe Hxf Ht Hsb Hg Hgl Hgr Hld Hlp Hst
    iapply Kb; unfold xsA; iempintro
  | loadWait r j =>
    obtain ⟨h₁, h₂, h₃⟩ := h
    unfold Dv; dsimp only [next, code]
    iintro ⟨#Hr, Hxf, Ht, Hsb, Hg, Hgl, Hgr, Hxs, Hld, Hlp, Hst⟩
    iintro Hk
    ihave A := (fam (ldA m c) σ.ld (r, j) .fly .done h₁) $$ Hld; icases A with ⟨A, Ka⟩
    ihave B := (fam (xsA m c) σ.xs (r, slot j) (σ.xs (r, slot j)) (.piece j) rfl) $$ Hxs; icases B with ⟨-, Kb⟩
    ihave C := (fam (lpA c) σ.lp (r, slot j) (j.val / 2) (j.val / 2 + 1) h₂) $$ Hlp; icases C with ⟨C, Kc⟩
    iapply (spec_loadWait m K r j h₃) $$ [A C Ht]
    · iframe A C Ht; iexact Hr
    iintro ⟨A, B, C, Ht⟩
    ihave Hld := Ka $$ A
    ihave Hlp := Kc $$ C
    ihave Hxs := Kb $$ B
    iapply Hk
    iframe
  | first r =>
    obtain ⟨h₁, h₂⟩ := h
    unfold Dv; dsimp only [next, code]
    iintro ⟨#Hr, Hxf, Ht, Hsb, Hg, Hgl, Hgr, Hxs, Hld, Hlp, Hst⟩
    iintro Hk
    ihave A := (fam (xsA m c) σ.xs (r, 0) (.piece 0) .free h₁) $$ Hxs; icases A with ⟨A, Ka⟩
    ihave B := (fam (sbA m c) σ.sb r .free (.sum 0) h₂) $$ Hsb; icases B with ⟨B, Kb⟩
    iapply (spec_first m r) $$ [A B]
    · iframe
    iintro ⟨A, B⟩
    ihave Hxs := Ka $$ A
    ihave Hsb := Kb $$ B
    iapply Hk
    iframe
  | add r s =>
    obtain ⟨h₁, h₂, h₃⟩ := h
    unfold Dv; dsimp only [next, code]
    iintro ⟨#Hr, Hxf, Ht, Hsb, Hg, Hgl, Hgr, Hxs, Hld, Hlp, Hst⟩
    iintro Hk
    ihave A := (fam (xsA m c) σ.xs (r, slot s.succ) (.piece s.succ) .free h₁) $$ Hxs; icases A with ⟨A, Ka⟩
    ihave B := (fam (sbA m c) σ.sb r .free (.sum (s.val + 1)) h₂) $$ Hsb; icases B with ⟨B, Kb⟩
    ihave C := (fam_same (xfA m c) σ.xf (0, r, s) .here h₃) $$ Hxf; icases C with ⟨C, Kc⟩
    iapply (spec_add m r s) $$ [A B C]
    · iframe
    iintro ⟨C, A, B⟩
    ihave Hxs := Ka $$ A
    ihave Hsb := Kb $$ B
    ihave Hxf := Kc $$ C
    iapply Hk
    iframe
  | rsStart r s =>
    obtain ⟨h₁, h₂, h₃⟩ := h
    unfold Dv; dsimp only [next, code]
    rw [tail_todo h₃, head_todo h₃]
    iintro ⟨#Hr, Hxf, Ht, Hsb, Hg, Hgl, Hgr, Hxs, Hld, Hlp, Hst⟩
    iintro Hk
    ihave A := (fam (sbA m c) σ.sb r (.sum s.val) .gone h₁) $$ Hsb; icases A with ⟨A, Ka⟩
    ihave B := (fam (xfA m c) σ.xf (0, r, s) .idle .sent h₂) $$ Hxf; icases B with ⟨B, Kb⟩
    iapply (spec_rsStart m K r s _) $$ [A B Ht]
    · iframe A B Ht; iexact Hr
    iintro ⟨B, Ht⟩
    ihave Hxf := Kb $$ B
    iapply Hk
    iframe Hxf Ht Hg Hgl Hgr Hxs Hld Hlp Hst
    iapply Ka; unfold sbA; iempintro
  | rsSent r s =>
    obtain ⟨h₁, h₂⟩ := h
    unfold Dv; dsimp only [next, code]
    iintro ⟨#Hr, Hxf, Ht, Hsb, Hg, Hgl, Hgr, Hxs, Hld, Hlp, Hst⟩
    iintro Hk
    ihave A := (fam (sbA m c) σ.sb r (σ.sb r) .free rfl) $$ Hsb; icases A with ⟨-, Ka⟩
    ihave B := (fam (xfA m c) σ.xf (0, r, s) .sent .read h₁) $$ Hxf; icases B with ⟨B, Kb⟩
    iapply (spec_rsSent m K r s h₂) $$ [B Ht]
    · iframe B Ht; iexact Hr
    iintro ⟨B, A, Ht⟩
    ihave Hxf := Kb $$ B
    ihave Hsb := Ka $$ A
    iapply Hk
    iframe
  | rsRecv r s =>
    obtain ⟨h₁, h₂⟩ := h
    unfold Dv; dsimp only [next, code]
    iintro ⟨#Hr, Hxf, Ht, Hsb, Hg, Hgl, Hgr, Hxs, Hld, Hlp, Hst⟩
    iintro Hk
    ihave B := (fam (xfA m c) σ.xf (0, r, s) .read .here h₁) $$ Hxf; icases B with ⟨B, Kb⟩
    iapply (spec_rsRecv m K r s h₂) $$ [B Ht]
    · iframe B Ht; iexact Hr
    iintro ⟨B, Ht⟩
    ihave Hxf := Kb $$ B
    iapply Hk
    iframe
  | keep r =>
    obtain ⟨h₁, h₂⟩ := h
    unfold Dv; dsimp only [next, code]
    iintro ⟨#Hr, Hxf, Ht, Hsb, Hg, Hgl, Hgr, Hxs, Hld, Hlp, Hst⟩
    iintro Hk
    ihave A := (fam (sbA m c) σ.sb r (.sum 7) .free h₁) $$ Hsb; icases A with ⟨A, Ka⟩
    ihave B := (fam (g0A c) σ.g0 r true false h₂) $$ Hg; icases B with ⟨B, Kb⟩
    ihave C := (fam (gtA m c fullShare.left) σ.gl (r, 0) _ true rfl) $$ Hgl; icases C with ⟨-, Kc⟩
    ihave D := (fam (gtA m c fullShare.right) σ.gr (r, 0) _ true rfl) $$ Hgr; icases D with ⟨-, Kd⟩
    iapply (spec_keep m r) $$ [A B]
    · iframe
    iintro ⟨A, C, D⟩
    ihave Hsb := Ka $$ A
    ihave Hgl := Kc $$ C
    ihave Hgr := Kd $$ D
    iapply Hk
    iframe Hxf Ht Hsb Hgl Hgr Hxs Hld Hlp Hst
    iapply Kb; unfold g0A; iempintro
  | agStart r t =>
    obtain ⟨h₁, h₂, h₃⟩ := h
    unfold Dv; dsimp only [next, code]
    rw [tail_todo h₃, head_todo h₃]
    iintro ⟨#Hr, Hxf, Ht, Hsb, Hg, Hgl, Hgr, Hxs, Hld, Hlp, Hst⟩
    iintro Hk
    ihave A := (fam (gtA m c fullShare.left) σ.gl (r, t.castSucc) true false h₁) $$ Hgl; icases A with ⟨A, Ka⟩
    ihave B := (fam (xfA m c) σ.xf (1, r, t) .idle .sent h₂) $$ Hxf; icases B with ⟨B, Kb⟩
    iapply (spec_agStart m K r t _) $$ [A B Ht]
    · iframe A B Ht; iexact Hr
    iintro ⟨B, Ht⟩
    ihave Hxf := Kb $$ B
    iapply Hk
    iframe Hxf Ht Hsb Hg Hgr Hxs Hld Hlp Hst
    iapply Ka; unfold gtA; iempintro
  | agSent r t =>
    obtain ⟨h₁, h₂⟩ := h
    unfold Dv; dsimp only [next, code]
    iintro ⟨#Hr, Hxf, Ht, Hsb, Hg, Hgl, Hgr, Hxs, Hld, Hlp, Hst⟩
    iintro Hk
    ihave A := (fam (gtA m c fullShare.left) σ.gl (r, t.castSucc) _ true rfl) $$ Hgl; icases A with ⟨-, Ka⟩
    ihave B := (fam (xfA m c) σ.xf (1, r, t) .sent .read h₁) $$ Hxf; icases B with ⟨B, Kb⟩
    iapply (spec_agSent m K r t h₂) $$ [B Ht]
    · iframe B Ht; iexact Hr
    iintro ⟨B, A, Ht⟩
    ihave Hxf := Kb $$ B
    ihave Hgl := Ka $$ A
    iapply Hk
    iframe
  | agRecv r t =>
    obtain ⟨h₁, h₂⟩ := h
    unfold Dv; dsimp only [next, code]
    iintro ⟨#Hr, Hxf, Ht, Hsb, Hg, Hgl, Hgr, Hxs, Hld, Hlp, Hst⟩
    iintro Hk
    ihave A := (fam (gtA m c fullShare.left) σ.gl (r, t.succ) _ true rfl) $$ Hgl; icases A with ⟨-, Ka⟩
    ihave C := (fam (gtA m c fullShare.right) σ.gr (r, t.succ) _ true rfl) $$ Hgr; icases C with ⟨-, Kc⟩
    ihave B := (fam (xfA m c) σ.xf (1, r, t) .read .here h₁) $$ Hxf; icases B with ⟨B, Kb⟩
    iapply (spec_agRecv m K r t h₂) $$ [B Ht]
    · iframe B Ht; iexact Hr
    iintro ⟨B, A, C, Ht⟩
    ihave Hxf := Kb $$ B
    ihave Hgl := Ka $$ A
    ihave Hgr := Kc $$ C
    iapply Hk
    iframe
  | outStart r k =>
    obtain ⟨h₁, h₂⟩ := h
    unfold Dv; dsimp only [next, code]
    iintro ⟨#Hr, Hxf, Ht, Hsb, Hg, Hgl, Hgr, Hxs, Hld, Hlp, Hst⟩
    iintro Hk
    ihave A := (fam (gtA m c fullShare.right) σ.gr (r, k) true false h₁) $$ Hgr; icases A with ⟨A, Ka⟩
    ihave B := (fam (stA m c) σ.st (r, k) .wait .fly h₂) $$ Hst; icases B with ⟨B, Kb⟩
    iapply (spec_outStart m K r k) $$ [A B]
    · iframe A B; iexact Hr
    iintro B
    ihave Hst := Kb $$ B
    iapply Hk
    iframe Hxf Ht Hsb Hg Hgl Hxs Hld Hlp Hst
    iapply Ka; unfold gtA; iempintro
  | outWait r k =>
    obtain ⟨h₁, h₂⟩ := h
    unfold Dv; dsimp only [next, code]
    iintro ⟨#Hr, Hxf, Ht, Hsb, Hg, Hgl, Hgr, Hxs, Hld, Hlp, Hst⟩
    iintro Hk
    ihave A := (fam (gtA m c fullShare.right) σ.gr (r, k) _ true rfl) $$ Hgr; icases A with ⟨-, Ka⟩
    ihave B := (fam (stA m c) σ.st (r, k) .fly .done h₁) $$ Hst; icases B with ⟨B, Kb⟩
    iapply (spec_outWait m K r k h₂) $$ [B Ht]
    · iframe B Ht; iexact Hr
    iintro ⟨B, A, Ht⟩
    ihave Hst := Kb $$ B
    ihave Hgr := Ka $$ A
    iapply Hk
    iframe

/-- A list of blocks, over the state. -/
theorem steps {Q : PUnit → sProp 𝕄} (bs : List Blk) (σ : St) (h : oks bs σ) :
    iprop(recs m K ∗ Dv m c σ) ⊢ iprop((Dv m c (nexts bs σ) -∗ WP c (seqL l) Q) -∗ WP c (seqL (bs.map (code c) ++ l)) Q) := by
  induction bs generalizing σ with
  | nil =>
    iintro ⟨-, H⟩
    iintro Hk
    iapply Hk
    iexact H
  | cons b bs ih =>
    obtain ⟨hb, hs⟩ := h
    iintro ⟨#Hr, H⟩
    iintro Hk
    iapply (move m K b σ hb) $$ [H]
    · iframe H; iexact Hr
    iintro H
    iapply (ih (next b σ) hs) $$ [H]
    · iframe H; iexact Hr
    iintro H
    iapply Hk
    iexact H

end Cert.KernelIdeal.AR

end
-- ==== Proof.Body.lean ====
module

public import proofs.«01_k».proof.Proof.Lift

/-! The handshake, the end of the body, and the body. -/

@[expose] public section

noncomputable section

namespace Cert.KernelIdeal.AR

open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (K : Dev nD × Cx → ℕ)

/-! ## The handshake -/

abbrev barC (c : Dev nD) : GSem nD τ sig := kcell (c, none)

/-- What a device owes at the start: its transfers, and a unit to either neighbour's barrier. -/
def O₁ (c : Dev nD) : CellTallies nD τ sig Unit := owe c order + tallyAt (barC (nx 0 c)) () 1
def O₀ (c : Dev nD) : CellTallies nD τ sig Unit := O₁ c + tallyAt (barC (nx 2 c)) () 1

/-- What the handshake takes. -/
def hand (c : Dev nD) : sProp 𝕄 :=
  iprop(bigSep Finset.univ (land c) ∗ dutyTok ER (barC (nx 2 c)) 0 false ∗ dutyTok ER (barC (nx 0 c)) 0 true
    ∗ atPos ER (barC c) 0 ∅ 0 ∗ cred (tallyAt (barC c) () 2))

theorem side_false (c : Dev nD) (x : Tr) (hx : x ∈ side false) : nx x.2.1 (nx 2 c) = c := by
  revert c x; decide +kernel
theorem side_true (c : Dev nD) (x : Tr) (hx : x ∈ side true) : nx x.2.1 (nx 0 c) = c := by
  revert c x; decide +kernel

theorem sides (Φ : Tr → sProp 𝕄) : bigSep Finset.univ Φ = iprop(bigSep (side false) Φ ∗ bigSep (side true) Φ) := by
  have h : Finset.univ.filter (fun x : Tr => ¬(decide (2 ≤ x.2.1.val)) = false) = side true :=
    Finset.filter_congr fun x _ => by rw [Bool.not_eq_false]
  rw [bigSep_filter_split Finset.univ (fun x : Tr => (decide (2 ≤ x.2.1.val)) = false), h]
  rfl

/-- A device's landing places are what it owes its neighbours' barriers; -/
theorem lands_out (c : Dev nD) : bigSep Finset.univ (land c) ⊢ (iprop(barPay (nx 2 c) false ∗ barPay (nx 0 c) true) : sProp 𝕄) := by
  unfold barPay
  rw [sides, bigSep_congr (s := side false) (Φ := land (F := F) c) fun x hx => show land c x = land (nx x.2.1 (nx 2 c)) x by rw [side_false c x hx],
    bigSep_congr (s := side true) (Φ := land (F := F) c) fun x hx => show land c x = land (nx x.2.1 (nx 0 c)) x by rw [side_true c x hx]]
/-- and its own barrier hands it those of the devices it sends to. -/
theorem lands_in (c : Dev nD) : (iprop(barPay c false ∗ barPay c true) : sProp 𝕄) ⊢ bigSep Finset.univ fun x : Tr => land (nx x.2.1 c) x := by
  unfold barPay
  rw [sides (fun x : Tr => land (nx x.2.1 c) x)]

theorem idle_all (c : Dev nD) : iprop(bigSep Finset.univ (fun x => xfA m c x .early) ∗ bigSep Finset.univ fun x : Tr => land (nx x.2.1 c) x)
    ⊢ bigSep Finset.univ fun x => xfA m c x .idle := by
  simp only [xfA]
  rw [bigSep_sep']

theorem above_bar : ∀ y ∈ order, lvx none < lvT y := by decide +kernel

theorem seqL_shake (c : Dev nD) (l : List (KP F PUnit)) :
    seqL (shake c ++ l) = Prog.op (.semSignal ((⟨k0_dev1 c, k0_dev1_lt c⟩ : Dev nD), .tc) barS (1 : Int)) fun _ =>
      Prog.op (.semSignal ((⟨k0_dev2 c, k0_dev2_lt c⟩ : Dev nD), .tc) barS (1 : Int)) fun _ => Prog.op (.semWait barS (2 : Int)) fun _ => seqL l := rfl

theorem bar_duty (c : Dev nD) (d : Bool) : d ∈ (Rd m).duties ((c : Thread nD τ), .reg barS) 0 := by
  show d ∈ (Rd m).duties (kcell (c, none)) 0
  rw [duties_eq]; exact Finset.mem_univ _
theorem bar_pay (c : Dev nD) (d : Bool) : (barPay c d : sProp 𝕄) ⊢ (Rd m).payload ((c : Thread nD τ), .reg barS) 0 d :=
  Entails.of_eq (payload_eq m c none 0 d).symm
theorem bar_got (c : Dev nD) :
    bigSep ((Rd m).duties ((c : Thread nD τ), .reg barS) 0 \ ∅) (fun d => (Rd m).payload ((c : Thread nD τ), .reg barS) 0 d) ⊢ (iprop(barPay c false ∗ barPay c true) : sProp 𝕄) :=
  Entails.of_eq (rest_bar m c)

variable {c : Dev nD} {l : List (KP F PUnit)}

theorem spec_shake {Q : PUnit → sProp 𝕄} (W : Waits sig Unit) :
    iprop(recs m K ∗ hand c ∗ owes (c : Thread nD τ) (O₀ c) W ∗ bigSep Finset.univ (fun x => xfA m c x .early))
      ⊢ iprop(((bigSep Finset.univ (fun x => xfA m c x .idle) ∗ todoA c (some order) ∗ atPos ER (barC c) 1 ∅ 0) -∗ WP c (seqL l) Q)
        -∗ WP c (seqL (shake c ++ l)) Q) := by
  rw [seqL_shake, dev1_eq, dev2_eq]
  unfold hand todoA
  iintro ⟨#Hr, ⟨Hl, Ht, Ht', Hp, Hc⟩, HO, Hx⟩
  iintro Hk
  ihave #HI := (recs_inv m K (nx 2 c, none)) $$ Hr
  ihave #HI' := (recs_inv m K (nx 0 c, none)) $$ Hr
  ihave #HIc := (recs_inv m K (c, none)) $$ Hr
  ihave #Hq := (recs_reached m K (nx 2 c, none)) $$ Hr
  ihave #Hq' := (recs_reached m K (nx 0 c, none)) $$ Hr
  ihave #HL := (recs_lev m K) $$ Hr
  ihave Hl := (lands_out c) $$ Hl
  icases Hl with ⟨Hl, Hl'⟩
  iapply (Rounds.wp_signal 𝒱₀ ER (Rd m) (c : Thread nD τ) none (dst := (nx 2 c : Thread nD τ)) (sem := barS) (κ := K (nx 2 c, none)) (r := 0)
      (d := false) (bar_duty m (nx 2 c) false) (amount_eq m (nx 2 c) none 0 false) () (O₁ c) rfl) $$ [HO Ht Hl]
  · isplitr; · iexact HI
    isplitl [HO]; · iexact HO
    isplitl [Ht]; · iexact Ht
    isplitl [Hl]
    · iapply (bar_pay m (nx 2 c) false)
      iexact Hl
    iexact Hq
  iintro HO
  iapply (Rounds.wp_signal 𝒱₀ ER (Rd m) (c : Thread nD τ) none (dst := (nx 0 c : Thread nD τ)) (sem := barS) (κ := K (nx 0 c, none)) (r := 0)
      (d := true) (bar_duty m (nx 0 c) true) (amount_eq m (nx 0 c) none 0 true) () (owe c order) rfl) $$ [HO Ht' Hl']
  · isplitr; · iexact HI'
    isplitl [HO]; · iexact HO
    isplitl [Ht']; · iexact Ht'
    isplitl [Hl']
    · iapply (bar_pay m (nx 0 c) true)
      iexact Hl'
    iexact Hq'
  iintro HO
  iapply (Rounds.wp_wait_rest_token 𝒱₀ ER (Rd m) (c : Thread nD τ) none (κ := K (c, none)) (wpE_semWait_eq 𝒱₀ (c : Thread nD τ) none Set.univ)
      (Set.mem_univ _) () (O := owe c order) (W := W) (R := 0) (m := 0) (T := ∅) (by rw [Nat.zero_add]; exact (expect_bar m c).symm)) $$ [Hc HO Hp]
  · isplitr; · iexact HIc
    isplitl [Hc]; · iexact Hc
    isplitl [HO]; · iexact HO
    isplitr; · iapply (mayWait c none order above_bar); iexact HL
    iexact Hp
  iintro ⟨HO, Hp, -, Hd⟩
  ihave Hd := (bar_got m c) $$ Hd
  ihave Hd := (lands_in c) $$ Hd
  iapply Hk
  isplitl [Hx Hd]
  · iapply (idle_all m c)
    iframe
  isplitl [HO]
  · iexists _; iexact HO
  iexact Hp

/-! ## The end -/

theorem duties_later (x : Cx) (n : ℕ) (h : (match x with | some (.inr (.inl _)) => 4 | _ => 1) ≤ n) : ∀ r, n ≤ r → (Rd m).duties (kcell (c, x)) r = ∅ := by
  intro r hr
  rw [duties_eq]; unfold dut
  split at h <;> split <;> first | exact if_neg (by omega) | simp_all

/-- A semaphore past its last round is closed at zero. -/
theorem close (x : Cx) (n : ℕ) (h : (match x with | some (.inr (.inl _)) => 4 | _ => 1) ≤ n) :
    iprop(recs m K ∗ atPos ER (kcell (c, x)) n ∅ 0) ⊢ |={Set.univ}=> (semVal (kcell (c, x)) 0 : sProp 𝕄) := by
  iintro ⟨#Hr, H⟩
  ihave #HI := (recs_inv m K (c, x)) $$ Hr
  imod (Rounds.cell_close ER (Rd m) (Set.mem_univ (K (c, x))) (fun h => h) (R := n) (duties_later m x n h)) $$ [H] with Hz
  · isplitr; · iexact HI
    iexact H
  imodintro
  iexact Hz
theorem close' (x : Ox) (n : ℕ) (h : (match (some x : Cx) with | some (.inr (.inl _)) => 4 | _ => 1) ≤ n) :
    iprop(recs m K ∗ pos (cellO c x) n) ⊢ |={Set.univ}=> (semVal (cellO c x) 0 : sProp 𝕄) := by
  unfold pos
  iintro ⟨#Hr, ⟨H, -⟩⟩
  iapply (close m K (some x) n h)
  iframe H
  iexact Hr

theorem fupd_all {I : Type} [Fintype I] [DecidableEq I] {R : sProp 𝕄} [BI.Persistent R] {Φ Ψ : I → sProp 𝕄}
    (h : ∀ i, iprop(R ∗ Φ i) ⊢ |={Set.univ}=> Ψ i) : iprop(R ∗ bigSep Finset.univ Φ) ⊢ |={Set.univ}=> bigSep Finset.univ Ψ :=
  ((sep_mono_left (BI.bigSep_of_persistent Finset.univ R)).trans (by rw [← bigSep_sep']; exact bigSep_mono fun i _ => h i)).trans (bigSep_fupd _ _)

/-- What the device holds when its kernel is done. -/
def Φ₁ (c : Dev nD) : sProp 𝕄 :=
  iprop(bigSep Finset.univ (fun x : Tr => iprop((semVal (cellO c (oxf x.1 x.2.1 x.2.2 0)) 0 ∗ semVal (cellO c (oxf x.1 x.2.1 x.2.2 1)) 0) ∗ got m c x))
    ∗ bigSep Finset.univ (fun r => any c (sbM r))
    ∗ bigSep Finset.univ (fun i : Fin 4 × Fin 8 => has c (gtM i.1 c i.2) fullShare.left (fin m i.1 c i.2.val))
    ∗ bigSep Finset.univ (fun i : Fin 4 × Fin 8 => has c (gtM i.1 c i.2) fullShare.right (fin m i.1 c i.2.val))
    ∗ bigSep Finset.univ (fun i : Fin 4 × Fin 2 => any c (xsM i.1 i.2))
    ∗ bigSep Finset.univ (fun i : Fin 4 × Fin 8 => has c (xM i.1 c i.2) fullShare (xblk m i.1 c i.2))
    ∗ bigSep Finset.univ (fun i : Fin 4 × Fin 2 => semVal (cellO c (oload i.1 i.2)) 0)
    ∗ bigSep Finset.univ (fun i : Fin 4 × Fin 8 => iprop(semVal (cellO c (ostore i.1 i.2)) 0 ∗ has c (outM i.1 c i.2) fullShare (fin m i.1 c i.2.val)))
    ∗ semVal (barC c) 0)

theorem Dv_end (c : Dev nD) : Dv m c σ₂ = iprop(bigSep Finset.univ (fun x => xfA m c x .here) ∗ todoA c (some []) ∗ bigSep Finset.univ (fun r => sbA m c r .free)
    ∗ bigSep Finset.univ (fun r => g0A c r (σ₂.g0 r)) ∗ bigSep Finset.univ (fun i => gtA m c fullShare.left i true)
    ∗ bigSep Finset.univ (fun i => gtA m c fullShare.right i true) ∗ bigSep Finset.univ (fun i => xsA m c i .free)
    ∗ bigSep Finset.univ (fun i => ldA m c i .done) ∗ bigSep Finset.univ (fun i => lpA c i 4)
    ∗ bigSep Finset.univ (fun i => stA m c i .done)) := by
  unfold Dv
  simp only [end_xf, end_todo, end_sb, end_gl, end_gr, end_xs, end_ld, end_lp, end_st]

theorem finish : iprop(recs m K ∗ Dv m c σ₂ ∗ atPos ER (barC c) 1 ∅ 0) ⊢ |={Set.univ}=> iprop(Φ₁ m c ∗ ∃ W, owes (c : Thread nD τ) 0 W) := by
  rw [Dv_end]
  iintro ⟨#Hr, ⟨Hxf, Ht, Hsb, -, Hgl, Hgr, Hxs, Hld, Hlp, Hst⟩, Hb⟩
  imod (close m K none 1 (Nat.le_refl 1)) $$ [Hb] with Hb
  · iframe Hb; iexact Hr
  imod (fupd_all (R := recs m K) (Φ := fun x => xfA m c x .here)
    (Ψ := fun x : Tr => iprop((semVal (cellO c (oxf x.1 x.2.1 x.2.2 0)) 0 ∗ semVal (cellO c (oxf x.1 x.2.1 x.2.2 1)) 0) ∗ got m c x)) (fun x => by
      simp only [xfA]
      iintro ⟨#Hr, Hp, Hp', Hg⟩
      imod (close' m K (oxf x.1 x.2.1 x.2.2 0) 1 (Nat.le_refl 1)) $$ [Hp] with Hp
      · iframe Hp; iexact Hr
      imod (close' m K (oxf x.1 x.2.1 x.2.2 1) 1 (Nat.le_refl 1)) $$ [Hp'] with Hp'
      · iframe Hp'; iexact Hr
      imodintro
      iframe)) $$ [Hxf] with Hxf
  · iframe Hxf; iexact Hr
  imod (fupd_all (R := recs m K) (Φ := fun i => lpA c i 4) (Ψ := fun i : Fin 4 × Fin 2 => semVal (cellO c (oload i.1 i.2)) 0) (fun i =>
      close' m K (oload i.1 i.2) 4 (Nat.le_refl 4))) $$ [Hlp] with Hlp
  · iframe Hlp; iexact Hr
  imod (fupd_all (R := recs m K) (Φ := fun i => stA m c i .done)
    (Ψ := fun i : Fin 4 × Fin 8 => iprop(semVal (cellO c (ostore i.1 i.2)) 0 ∗ has c (outM i.1 c i.2) fullShare (fin m i.1 c i.2.val))) (fun i => by
      simp only [stA]
      iintro ⟨#Hr, Hp, Hg⟩
      imod (close' m K (ostore i.1 i.2) 1 (Nat.le_refl 1)) $$ [Hp] with Hp
      · iframe Hp; iexact Hr
      imodintro
      iframe)) $$ [Hst] with Hst
  · iframe Hst; iexact Hr
  imodintro
  unfold Φ₁
  simp only [sbA, gtA, xsA, ldA]
  ihave Ht := (show todoA c (some []) ⊢ (iprop(∃ W, owes (c : Thread nD τ) 0 W) : sProp 𝕄) from BI.Entails.refl _) $$ Ht
  iframe Hxf Hsb Hgl Hgr Hxs Hld Hlp Hst Hb
  iexact Ht

/-- What the device starts from. -/
def Φ₀ (c : Dev nD) : sProp 𝕄 := iprop(∃ K, recs m K ∗ Dv m c σ₀ ∗ hand c)

theorem Dv_shaken (c : Dev nD) : Dv m c (nexts before σ₀) = iprop(bigSep Finset.univ (fun x => xfA m c x .early) ∗ emp ∗ bigSep Finset.univ (fun r => sbA m c r (σ₁.sb r))
    ∗ bigSep Finset.univ (fun r => g0A c r (σ₁.g0 r)) ∗ bigSep Finset.univ (fun i => gtA m c fullShare.left i (σ₁.gl i))
    ∗ bigSep Finset.univ (fun i => gtA m c fullShare.right i (σ₁.gr i)) ∗ bigSep Finset.univ (fun i => xsA m c i (σ₁.xs i))
    ∗ bigSep Finset.univ (fun i => ldA m c i (σ₁.ld i)) ∗ bigSep Finset.univ (fun i => lpA c i (σ₁.lp i))
    ∗ bigSep Finset.univ (fun i => stA m c i (σ₁.st i))) := by
  unfold Dv
  rw [xf_before, todo_before]
  rfl

/-- The body. -/
theorem sound (W : Waits sig Unit) {Q : PUnit → sProp 𝕄} :
    iprop(Φ₀ m c ∗ owes (c : Thread nD τ) (O₀ c) W) ⊢ iprop(((Φ₁ m c ∗ ∃ W, owes (c : Thread nD τ) 0 W) -∗ Q ⟨⟩) -∗ WP c (script c) Q) := by
  rw [script_eq]
  unfold Φ₀
  iintro ⟨⟨%K, #Hr, HD, Hh⟩, HO⟩
  iintro Hk
  iapply (steps m K before σ₀ oks_before) $$ [HD]
  · iframe HD; iexact Hr
  iintro HD
  ihave HD := (Entails.of_eq (Dv_shaken m c)) $$ HD
  icases HD with ⟨Hxf, -, Hrest⟩
  iapply (spec_shake m K W) $$ [Hh HO Hxf]
  · iframe Hh HO Hxf; iexact Hr
  iintro ⟨Hxf, Ht, Hb⟩
  ihave HD := (show iprop(bigSep Finset.univ (fun x => xfA m c x .idle) ∗ todoA c (some order) ∗ bigSep Finset.univ (fun r => sbA m c r (σ₁.sb r))
    ∗ bigSep Finset.univ (fun r => g0A c r (σ₁.g0 r)) ∗ bigSep Finset.univ (fun i => gtA m c fullShare.left i (σ₁.gl i))
    ∗ bigSep Finset.univ (fun i => gtA m c fullShare.right i (σ₁.gr i)) ∗ bigSep Finset.univ (fun i => xsA m c i (σ₁.xs i))
    ∗ bigSep Finset.univ (fun i => ldA m c i (σ₁.ld i)) ∗ bigSep Finset.univ (fun i => lpA c i (σ₁.lp i))
    ∗ bigSep Finset.univ (fun i => stA m c i (σ₁.st i))) ⊢ Dv m c σ₁ from BI.Entails.refl _) $$ [Hxf Ht Hrest]
  · iframe
  ihave He := (steps (l := []) m K after σ₁ oks_after (Q := Q)) $$ [HD]
  · iframe HD; iexact Hr
  ihave He := (Entails.of_eq (congrArg (fun l => iprop((Dv m c (nexts after σ₁) -∗ WP c (seqL []) Q) -∗ WP c (seqL l) Q)) (List.append_nil (after.map (code c))))) $$ He
  iapply He
  iintro HD
  imod (finish m K) $$ [HD Hb] with HF
  · iframe HD Hb; iexact Hr
  iapply (show iprop(|={Set.univ}=> Q ⟨⟩) ⊢ WP c (seqL []) Q from Entails.of_eq (wp_ret _ _ _ _ _).symm)
  imodintro
  iapply Hk
  iexact HF

end Cert.KernelIdeal.AR

end
-- ==== Proof.Parts.lean ====
module

public import proofs.«01_k».proof.Proof.Body
public import Idealize.ShloMosaic.Lib.Ring

/-! The buffers cut into the pieces that the device works with, and put together again. -/

@[expose] public section

noncomputable section

namespace Cert.KernelIdeal.AR

open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds
open Cert.KernelIdeal Cert.KernelIdeal.Gen

variable {F : FTy → Type} [FloatOps F]

local notation "𝕄" => MT nD τ sig Unit (Elt F) ℕ UU ℕ

/-! ## A buffer and rectangles that fill it -/

section Cut

variable {b : Ref sig .tc} {I : Type} [Fintype I] [DecidableEq I] (R : I → Rect b.ty.shape) (h1 : ∀ i a, (R i).stride a = 1)
  (hd : ∀ i j, i ≠ j → Disjoint (R i).set (R j).set) (hc : ∀ x : b.ty.shape.Idx, ∃ i, x ∈ (R i).set)

include hc in
theorem fills : Finset.univ.biUnion (fun i => (R i).set) = Finset.univ :=
  Finset.eq_univ_iff_forall.mpr fun x => Finset.mem_biUnion.mpr ((hc x).imp fun i h => ⟨Finset.mem_univ _, h⟩)

/-- A piece as a part of the buffer's points-to. -/
theorem piece_set (i : I) : (((Memref.whole b).slice (R i) (h1 i)).view).set = (R i).set := View.set_slice_whole b (R i)

theorem has_cut (c : Dev nD) (q : PosShare TreeShare) (i : I) (f : Buf (Elt F) ((c : Thread nD τ).loc b)) :
    (((c : Thread nD τ).loc b) ↦[(R i).set]{q} f : sProp 𝕄)
      ⊢ has c ((Memref.whole b).slice (R i) (h1 i)) q (((Memref.whole b).slice (R i) (h1 i)).view.read (Elt F) f) := by
  rw [← piece_set R h1 i]
  exact has_mk c q ((Memref.whole b).slice (R i) (h1 i)) rfl

include hd hc in
/-- The buffer held whole is held piece by piece. -/
theorem cut_buf (c : Dev nD) (q : PosShare TreeShare) (f : Buf (Elt F) ((c : Thread nD τ).loc b)) :
    (((c : Thread nD τ).loc b) ↦{q} f : sProp 𝕄)
      ⊢ bigSep Finset.univ fun i => has c ((Memref.whole b).slice (R i) (h1 i)) q (((Memref.whole b).slice (R i) (h1 i)).view.read (Elt F) f) :=
  (Entails.of_eq (Ring.pointsTo_blocks (ℓ := (c : Thread nD τ).loc b) (fun i => (R i).set) hd (fills R hc) f)).trans
    (bigSep_mono fun i _ => has_cut R h1 c q i f)

/-- A piece whose contents are those of `f` there. -/
theorem has_uncut (c : Dev nD) (q : PosShare TreeShare) (i : I) (f : Buf (Elt F) ((c : Thread nD τ).loc b)) :
    (has c ((Memref.whole b).slice (R i) (h1 i)) q (((Memref.whole b).slice (R i) (h1 i)).view.read (Elt F) f) : sProp 𝕄)
      ⊢ (((c : Thread nD τ).loc b) ↦[(R i).set]{q} f : sProp 𝕄) := by
  rw [← piece_set R h1 i]
  show owns (c : Thread nD τ) _ q _ ⊢ _
  unfold owns
  iintro ⟨%g, %hg, H⟩
  ihave H := (Entails.of_eq (show (((c : Thread nD τ).loc b) ↦[(((Memref.whole b).slice (R i) (h1 i)).view).set]{q} g : sProp 𝕄) = (((c : Thread nD τ).loc b) ↦[(((Memref.whole b).slice (R i) (h1 i)).view).set]{q} f : sProp 𝕄) from pointsTo_congr (fun x hx => by
    obtain ⟨y, -, rfl⟩ := Finset.mem_map.mp hx
    exact congrFun hg y))) $$ H
  iexact H

include hd hc in
/-- Pieces with the contents of one buffer make that buffer. -/
theorem join_buf (c : Dev nD) (q : PosShare TreeShare) (f : Buf (Elt F) ((c : Thread nD τ).loc b)) :
    (bigSep Finset.univ fun i => has c ((Memref.whole b).slice (R i) (h1 i)) q (((Memref.whole b).slice (R i) (h1 i)).view.read (Elt F) f) : sProp 𝕄)
      ⊢ (((c : Thread nD τ).loc b) ↦{q} f : sProp 𝕄) :=
  (bigSep_mono fun i _ => has_uncut R h1 c q i f).trans
    (Entails.of_eq (Ring.pointsTo_blocks (ℓ := (c : Thread nD τ).loc b) (fun i => (R i).set) hd (fills R hc) f).symm)

/-- A piece with any contents. -/
theorem any_uncut (c : Dev nD) (i : I) :
    (any c ((Memref.whole b).slice (R i) (h1 i)) : sProp 𝕄)
      ⊢ iprop(∃ f, (((c : Thread nD τ).loc b) ↦[(R i).set]{fullShare} f)) := by
  rw [← piece_set R h1 i]
  show iprop(∃ X, owns (c : Thread nD τ) _ fullShare X) ⊢ _
  unfold owns
  iintro ⟨%X, %g, -, H⟩
  iexists g
  iexact H

include hd hc in
/-- Pieces with any contents make the buffer, with some contents. -/
theorem join_any (c : Dev nD) (f₀ : Buf (Elt F) ((c : Thread nD τ).loc b)) :
    (bigSep Finset.univ fun i => any c ((Memref.whole b).slice (R i) (h1 i)) : sProp 𝕄) ⊢ iprop(∃ g, ((c : Thread nD τ).loc b) ↦{fullShare} g) :=
  (bigSep_mono fun i _ => any_uncut R h1 c i).trans
    (Ring.pointsTo_blocks_join_exists (ℓ := (c : Thread nD τ).loc b) (fun i => (R i).set) hd (fills R hc) f₀)

end Cut

/-! ## The same with the axes of size one dropped -/

section CutSq

variable {b : Ref sig .tc} {I : Type} [Fintype I] [DecidableEq I] (R : I → Rect b.ty.shape) (h1 : ∀ i a, (R i).stride a = 1) (s : Shape)
  (hs : ∀ i, (R i).shape.Squeezes s)
  (hd : ∀ i j, i ≠ j → Disjoint (R i).set (R j).set) (hc : ∀ x : b.ty.shape.Idx, ∃ i, x ∈ (R i).set)

/-- A piece with its axes of size one dropped. -/
abbrev sq (i : I) : Memref sig .tc b.space s b.ty.elt := ((Memref.whole b).slice (R i) (h1 i)).squeeze s (hs i)

theorem sq_set (i : I) : (sq R h1 s hs i).view.set = (R i).set :=
  (View.set_reshape _ _).trans (View.set_slice_whole b (R i))

theorem has_cut_sq (c : Dev nD) (q : PosShare TreeShare) (i : I) (f : Buf (Elt F) ((c : Thread nD τ).loc b)) :
    (((c : Thread nD τ).loc b) ↦[(R i).set]{q} f : sProp 𝕄) ⊢ has c (sq R h1 s hs i) q ((sq R h1 s hs i).view.read (Elt F) f) := by
  rw [← sq_set R h1 s hs i]
  exact has_mk c q (sq R h1 s hs i) rfl

include hd hc in
theorem cut_sq (c : Dev nD) (q : PosShare TreeShare) (f : Buf (Elt F) ((c : Thread nD τ).loc b)) :
    (((c : Thread nD τ).loc b) ↦{q} f : sProp 𝕄)
      ⊢ bigSep Finset.univ fun i => has c (sq R h1 s hs i) q ((sq R h1 s hs i).view.read (Elt F) f) :=
  (Entails.of_eq (Ring.pointsTo_blocks (ℓ := (c : Thread nD τ).loc b) (fun i => (R i).set) hd (fills R hc) f)).trans
    (bigSep_mono fun i _ => has_cut_sq R h1 s hs c q i f)

theorem has_uncut_sq (c : Dev nD) (q : PosShare TreeShare) (i : I) (f : Buf (Elt F) ((c : Thread nD τ).loc b)) :
    (has c (sq R h1 s hs i) q ((sq R h1 s hs i).view.read (Elt F) f) : sProp 𝕄) ⊢ (((c : Thread nD τ).loc b) ↦[(R i).set]{q} f : sProp 𝕄) := by
  rw [← sq_set R h1 s hs i]
  show owns (c : Thread nD τ) _ q _ ⊢ _
  unfold owns
  iintro ⟨%g, %hg, H⟩
  ihave H := (Entails.of_eq (show (((c : Thread nD τ).loc b) ↦[(sq R h1 s hs i).view.set]{q} g : sProp 𝕄) = (((c : Thread nD τ).loc b) ↦[(sq R h1 s hs i).view.set]{q} f : sProp 𝕄) from pointsTo_congr (fun x hx => by
    obtain ⟨y, -, rfl⟩ := Finset.mem_map.mp hx
    exact congrFun hg y))) $$ H
  iexact H

include hd hc in
theorem join_sq (c : Dev nD) (q : PosShare TreeShare) (f : Buf (Elt F) ((c : Thread nD τ).loc b)) :
    (bigSep Finset.univ fun i => has c (sq R h1 s hs i) q ((sq R h1 s hs i).view.read (Elt F) f) : sProp 𝕄)
      ⊢ (((c : Thread nD τ).loc b) ↦{q} f : sProp 𝕄) :=
  (bigSep_mono fun i _ => has_uncut_sq R h1 s hs c q i f).trans
    (Entails.of_eq (Ring.pointsTo_blocks (ℓ := (c : Thread nD τ).loc b) (fun i => (R i).set) hd (fills R hc) f).symm)

theorem any_uncut_sq (c : Dev nD) (i : I) :
    (any c (sq R h1 s hs i) : sProp 𝕄) ⊢ iprop(∃ f, (((c : Thread nD τ).loc b) ↦[(R i).set]{fullShare} f)) := by
  rw [← sq_set R h1 s hs i]
  show iprop(∃ X, owns (c : Thread nD τ) _ fullShare X) ⊢ _
  unfold owns
  iintro ⟨%X, %g, -, H⟩
  iexists g
  iexact H

include hd hc in
theorem join_any_sq (c : Dev nD) (f₀ : Buf (Elt F) ((c : Thread nD τ).loc b)) :
    (bigSep Finset.univ fun i => any c (sq R h1 s hs i) : sProp 𝕄) ⊢ iprop(∃ g, ((c : Thread nD τ).loc b) ↦{fullShare} g) :=
  (bigSep_mono fun i _ => any_uncut_sq R h1 s hs c i).trans
    (Ring.pointsTo_blocks_join_exists (ℓ := (c : Thread nD τ).loc b) (fun i => (R i).set) hd (fills R hc) f₀)

end CutSq

/-! ## The rectangles of this program -/

theorem gR_mem (r : Fin 4) (c : Dev nD) (k : Fin 8) (x : S4096x2048.Idx) :
    x ∈ (gR r c k).set ↔ (512 * sh r c (k.val + 7) ≤ (x 0).val ∧ (x 0).val < 512 * sh r c (k.val + 7) + 512) ∧ (512 * r.val ≤ (x 1).val ∧ (x 1).val < 512 * r.val + 512) := by
  rw [Rect.mem_set_unit, offG_eq, Fin.forall_fin_two]; rfl
theorem xR_mem (r : Fin 4) (c : Dev nD) (j : Fin 8) (x : S1x4096x2048.Idx) :
    x ∈ (xR r c j).set ↔ (512 * sh r c j.val ≤ (x 1).val ∧ (x 1).val < 512 * sh r c j.val + 512) ∧ (512 * r.val ≤ (x 2).val ∧ (x 2).val < 512 * r.val + 512) := by
  rw [Rect.mem_set_unit, offX_eq, Fin.forall_fin_succ, Fin.forall_fin_two]
  constructor
  · rintro ⟨-, h⟩; exact h
  · exact fun h => ⟨⟨Nat.zero_le _, by have := (x 0).isLt; exact this⟩, h⟩
theorem sbR_mem (r : Fin 4) (x : S4x512x512.Idx) : x ∈ (sbR r).set ↔ (x 0).val = r.val := by
  rw [Rect.mem_set_unit, Fin.forall_fin_succ, Fin.forall_fin_two]
  constructor
  · rintro ⟨h, -⟩
    have h1 : r.val ≤ (x 0).val := h.1
    have h2 : (x 0).val < r.val + 1 := h.2
    omega
  · intro h
    exact ⟨⟨h.symm.le, by show (x 0).val < r.val + 1; omega⟩, ⟨Nat.zero_le _, by have := (x 1).isLt; show (x 1).val < 0 + 512; simpa using this⟩, Nat.zero_le _, by have := (x 2).isLt; show (x 2).val < 0 + 512; simpa using this⟩
theorem rvR_mem (r : Fin 4) (s : Fin 7) (x : S4x7x512x512.Idx) : x ∈ (rvR r s).set ↔ (x 0).val = r.val ∧ (x 1).val = s.val := by
  rw [Rect.mem_set_unit, Fin.forall_fin_succ, Fin.forall_fin_succ, Fin.forall_fin_two]
  constructor
  · rintro ⟨h, h', -⟩
    have h1 : r.val ≤ (x 0).val := h.1
    have h2 : (x 0).val < r.val + 1 := h.2
    have h3 : s.val ≤ (x 1).val := h'.1
    have h4 : (x 1).val < s.val + 1 := h'.2
    omega
  · intro ⟨h, h'⟩
    exact ⟨⟨h.symm.le, by show (x 0).val < r.val + 1; omega⟩, ⟨h'.symm.le, by show (x 1).val < s.val + 1; omega⟩,
      ⟨Nat.zero_le _, by have := (x 2).isLt; show (x 2).val < 0 + 512; simpa using this⟩, Nat.zero_le _, by have := (x 3).isLt; show (x 3).val < 0 + 512; simpa using this⟩
theorem xsR_mem (r : Fin 4) (s : Fin 2) (x : S4x2x512x512.Idx) : x ∈ (xsR r s).set ↔ (x 0).val = r.val ∧ (x 1).val = s.val := by
  rw [Rect.mem_set_unit, Fin.forall_fin_succ, Fin.forall_fin_succ, Fin.forall_fin_two]
  constructor
  · rintro ⟨h, h', -⟩
    have h1 : r.val ≤ (x 0).val := h.1
    have h2 : (x 0).val < r.val + 1 := h.2
    have h3 : s.val ≤ (x 1).val := h'.1
    have h4 : (x 1).val < s.val + 1 := h'.2
    omega
  · intro ⟨h, h'⟩
    exact ⟨⟨h.symm.le, by show (x 0).val < r.val + 1; omega⟩, ⟨h'.symm.le, by show (x 1).val < s.val + 1; omega⟩,
      ⟨Nat.zero_le _, by have := (x 2).isLt; show (x 2).val < 0 + 512; simpa using this⟩, Nat.zero_le _, by have := (x 3).isLt; show (x 3).val < 0 + 512; simpa using this⟩

/-- Each block row is visited once and all are. -/
theorem sh_once : ∀ (r : Fin 4) (c : Fin 8) (e : Fin 2) (j j' : Fin 8), sh r c (j.val + 7 * e.val) = sh r c (j'.val + 7 * e.val) → j = j' := by decide
theorem sh_all : ∀ (r : Fin 4) (c : Fin 8) (e : Fin 2) (s : Fin 8), ∃ j : Fin 8, sh r c (j.val + 7 * e.val) = s.val := by decide

theorem apart {S : Shape} {A B : Finset S.Idx} (h : ∀ x, x ∈ A → x ∈ B → False) : Disjoint A B :=
  Finset.disjoint_left.mpr fun {x} hx hx' => h x hx hx'

theorem gR_apart (c : Dev nD) (i j : Fin 4 × Fin 8) (h : i ≠ j) : Disjoint (gR i.1 c i.2).set (gR j.1 c j.2).set := by
  refine apart fun x hx hx' => h ?_
  have ⟨h1, h2⟩ := (gR_mem i.1 c i.2 x).mp hx
  have ⟨h3, h4⟩ := (gR_mem j.1 c j.2 x).mp hx'
  have hr : i.1 = j.1 := Fin.ext (by omega)
  refine Prod.ext hr (sh_once i.1 c 1 i.2 j.2 ?_)
  rw [← hr] at h3
  show sh i.1 c (i.2.val + 7) = sh i.1 c (j.2.val + 7)
  omega
theorem gR_fill (c : Dev nD) (x : S4096x2048.Idx) : ∃ i : Fin 4 × Fin 8, x ∈ (gR i.1 c i.2).set := by
  have h0 : (x 0).val < 4096 := (x 0).isLt
  have h1 : (x 1).val < 2048 := (x 1).isLt
  obtain ⟨k, hk⟩ := sh_all ⟨(x 1).val / 512, by omega⟩ c 1 ⟨(x 0).val / 512, by omega⟩
  refine ⟨(⟨(x 1).val / 512, by omega⟩, k), (gR_mem _ c k x).mpr ?_⟩
  have hk' : sh ⟨(x 1).val / 512, by omega⟩ c (k.val + 7) = (x 0).val / 512 := hk
  rw [hk']
  dsimp only
  omega

theorem xR_apart (c : Dev nD) (i j : Fin 4 × Fin 8) (h : i ≠ j) : Disjoint (xR i.1 c i.2).set (xR j.1 c j.2).set := by
  refine apart fun x hx hx' => h ?_
  have ⟨h1, h2⟩ := (xR_mem i.1 c i.2 x).mp hx
  have ⟨h3, h4⟩ := (xR_mem j.1 c j.2 x).mp hx'
  have hr : i.1 = j.1 := Fin.ext (by omega)
  refine Prod.ext hr (sh_once i.1 c 0 i.2 j.2 ?_)
  rw [← hr] at h3
  show sh i.1 c i.2.val = sh i.1 c j.2.val
  omega
theorem xR_fill (c : Dev nD) (x : S1x4096x2048.Idx) : ∃ i : Fin 4 × Fin 8, x ∈ (xR i.1 c i.2).set := by
  have h0 : (x 1).val < 4096 := (x 1).isLt
  have h1 : (x 2).val < 2048 := (x 2).isLt
  obtain ⟨k, hk⟩ := sh_all ⟨(x 2).val / 512, by omega⟩ c 0 ⟨(x 1).val / 512, by omega⟩
  refine ⟨(⟨(x 2).val / 512, by omega⟩, k), (xR_mem _ c k x).mpr ?_⟩
  have hk' : sh ⟨(x 2).val / 512, by omega⟩ c k.val = (x 1).val / 512 := hk
  rw [hk']
  dsimp only
  omega

theorem sbR_apart (i j : Fin 4) (h : i ≠ j) : Disjoint (sbR i).set (sbR j).set :=
  apart fun x hx hx' => h (Fin.ext (((sbR_mem i x).mp hx).symm.trans ((sbR_mem j x).mp hx')))
theorem sbR_fill (x : S4x512x512.Idx) : ∃ i : Fin 4, x ∈ (sbR i).set := ⟨x 0, (sbR_mem _ x).mpr rfl⟩
theorem rvR_apart (i j : Fin 4 × Fin 7) (h : i ≠ j) : Disjoint (rvR i.1 i.2).set (rvR j.1 j.2).set :=
  apart fun x hx hx' => h (Prod.ext (Fin.ext (((rvR_mem _ _ x).mp hx).1.symm.trans ((rvR_mem _ _ x).mp hx').1))
    (Fin.ext (((rvR_mem _ _ x).mp hx).2.symm.trans ((rvR_mem _ _ x).mp hx').2)))
theorem rvR_fill (x : S4x7x512x512.Idx) : ∃ i : Fin 4 × Fin 7, x ∈ (rvR i.1 i.2).set := ⟨(x 0, x 1), (rvR_mem _ _ x).mpr ⟨rfl, rfl⟩⟩
theorem xsR_apart (i j : Fin 4 × Fin 2) (h : i ≠ j) : Disjoint (xsR i.1 i.2).set (xsR j.1 j.2).set :=
  apart fun x hx hx' => h (Prod.ext (Fin.ext (((xsR_mem _ _ x).mp hx).1.symm.trans ((xsR_mem _ _ x).mp hx').1))
    (Fin.ext (((xsR_mem _ _ x).mp hx).2.symm.trans ((xsR_mem _ _ x).mp hx').2)))
theorem xsR_fill (x : S4x2x512x512.Idx) : ∃ i : Fin 4 × Fin 2, x ∈ (xsR i.1 i.2).set := ⟨(x 0, x 1), (xsR_mem _ _ x).mpr ⟨rfl, rfl⟩⟩

/-! ## The buffers of this program -/

theorem to_any {c : Dev nD} {sp : Space} {s : Shape} {e : EltTy} (b : Memref sig .tc sp s e) (X : s.Idx → Elt F e) : (has c b fullShare X : sProp 𝕄) ⊢ any c b := by
  show owns (c : Thread nD τ) b fullShare X ⊢ iprop(∃ X, owns (c : Thread nD τ) b fullShare X)
  iintro H
  iexists X
  iexact H

variable (m : (ℓ : Loc nD τ sig) → Buf (Elt F) ℓ) (c : Dev nD)

/-- The argument is the pieces that are loaded, -/
theorem cut_arg : (((c : Thread nD τ).loc main_arg0) ↦{fullShare} m ((c : Thread nD τ).loc main_arg0) : sProp 𝕄)
    ⊢ bigSep Finset.univ fun i : Fin 4 × Fin 8 => has c (xM i.1 c i.2) fullShare (xblk m i.1 c i.2) :=
  cut_sq (b := main_arg0) (fun i : Fin 4 × Fin 8 => xR i.1 c i.2) (fun _ _ => rfl) S512x512 (fun _ => squeezes_S1x512x512_S512x512) (xR_apart c) (xR_fill c) c fullShare _
/-- and they are the argument. -/
theorem join_arg : (bigSep Finset.univ fun i : Fin 4 × Fin 8 => has c (xM i.1 c i.2) fullShare (xblk m i.1 c i.2) : sProp 𝕄)
    ⊢ (((c : Thread nD τ).loc main_arg0) ↦{fullShare} m ((c : Thread nD τ).loc main_arg0) : sProp 𝕄) :=
  join_sq (b := main_arg0) (fun i : Fin 4 × Fin 8 => xR i.1 c i.2) (fun _ _ => rfl) S512x512 (fun _ => squeezes_S1x512x512_S512x512) (xR_apart c) (xR_fill c) c fullShare _

/-- The result is the pieces that are stored, -/
theorem cut_out (f : Buf (Elt F) ((c : Thread nD τ).loc main_v1)) : (((c : Thread nD τ).loc main_v1) ↦{fullShare} f : sProp 𝕄)
    ⊢ bigSep Finset.univ fun i : Fin 4 × Fin 8 => any c (outM i.1 c i.2) :=
  (cut_buf (b := main_v1) (fun i : Fin 4 × Fin 8 => gR i.1 c i.2) (fun _ _ => rfl) (gR_apart c) (gR_fill c) c fullShare f).trans
    (bigSep_mono fun i _ => to_any (outM i.1 c i.2) _)

/-- The gathered array is its pieces, -/
theorem cut_gt (f : Buf (Elt F) ((c : Thread nD τ).loc cc0_scratch2)) : (((c : Thread nD τ).loc cc0_scratch2) ↦{fullShare} f : sProp 𝕄)
    ⊢ bigSep Finset.univ fun i : Fin 4 × Fin 8 => any c (gtM i.1 c i.2) :=
  (cut_buf (b := cc0_scratch2) (fun i : Fin 4 × Fin 8 => gR i.1 c i.2) (fun _ _ => rfl) (gR_apart c) (gR_fill c) c fullShare f).trans
    (bigSep_mono fun i _ => to_any (gtM i.1 c i.2) _)
theorem join_gt (f₀ : Buf (Elt F) ((c : Thread nD τ).loc cc0_scratch2)) : (bigSep Finset.univ fun i : Fin 4 × Fin 8 => any c (gtM i.1 c i.2) : sProp 𝕄)
    ⊢ iprop(∃ g, ((c : Thread nD τ).loc cc0_scratch2) ↦{fullShare} g) :=
  join_any (b := cc0_scratch2) (fun i : Fin 4 × Fin 8 => gR i.1 c i.2) (fun _ _ => rfl) (gR_apart c) (gR_fill c) c f₀

/-- and so are the working places. -/
theorem cut_sb (f : Buf (Elt F) ((c : Thread nD τ).loc cc0_scratch0)) : (((c : Thread nD τ).loc cc0_scratch0) ↦{fullShare} f : sProp 𝕄)
    ⊢ bigSep Finset.univ fun r : Fin 4 => any c (sbM r) :=
  (cut_sq (b := cc0_scratch0) sbR (fun _ _ => rfl) S512x512 (fun _ => squeezes_S1x512x512_S512x512) sbR_apart sbR_fill c fullShare f).trans
    (bigSep_mono fun r _ => to_any (sbM r) _)
theorem join_sb (f₀ : Buf (Elt F) ((c : Thread nD τ).loc cc0_scratch0)) : (bigSep Finset.univ fun r : Fin 4 => any c (sbM r) : sProp 𝕄)
    ⊢ iprop(∃ g, ((c : Thread nD τ).loc cc0_scratch0) ↦{fullShare} g) :=
  join_any_sq (b := cc0_scratch0) sbR (fun _ _ => rfl) S512x512 (fun _ => squeezes_S1x512x512_S512x512) sbR_apart sbR_fill c f₀
theorem cut_rv (f : Buf (Elt F) ((c : Thread nD τ).loc cc0_scratch1)) : (((c : Thread nD τ).loc cc0_scratch1) ↦{fullShare} f : sProp 𝕄)
    ⊢ bigSep Finset.univ fun i : Fin 4 × Fin 7 => any c (rvM i.1 i.2) :=
  (cut_sq (b := cc0_scratch1) (fun i : Fin 4 × Fin 7 => rvR i.1 i.2) (fun _ _ => rfl) S512x512 (fun _ => squeezes_S1x1x512x512_S512x512) rvR_apart rvR_fill c fullShare f).trans
    (bigSep_mono fun i _ => to_any (rvM i.1 i.2) _)
theorem join_rv (f₀ : Buf (Elt F) ((c : Thread nD τ).loc cc0_scratch1)) : (bigSep Finset.univ fun i : Fin 4 × Fin 7 => any c (rvM i.1 i.2) : sProp 𝕄)
    ⊢ iprop(∃ g, ((c : Thread nD τ).loc cc0_scratch1) ↦{fullShare} g) :=
  join_any_sq (b := cc0_scratch1) (fun i : Fin 4 × Fin 7 => rvR i.1 i.2) (fun _ _ => rfl) S512x512 (fun _ => squeezes_S1x1x512x512_S512x512) rvR_apart rvR_fill c f₀
theorem cut_xs (f : Buf (Elt F) ((c : Thread nD τ).loc cc0_scratch3)) : (((c : Thread nD τ).loc cc0_scratch3) ↦{fullShare} f : sProp 𝕄)
    ⊢ bigSep Finset.univ fun i : Fin 4 × Fin 2 => any c (xsM i.1 i.2) :=
  (cut_sq (b := cc0_scratch3) (fun i : Fin 4 × Fin 2 => xsR i.1 i.2) (fun _ _ => rfl) S512x512 (fun _ => squeezes_S1x1x512x512_S512x512) xsR_apart xsR_fill c fullShare f).trans
    (bigSep_mono fun i _ => to_any (xsM i.1 i.2) _)
theorem join_xs (f₀ : Buf (Elt F) ((c : Thread nD τ).loc cc0_scratch3)) : (bigSep Finset.univ fun i : Fin 4 × Fin 2 => any c (xsM i.1 i.2) : sProp 𝕄)
    ⊢ iprop(∃ g, ((c : Thread nD τ).loc cc0_scratch3) ↦{fullShare} g) :=
  join_any_sq (b := cc0_scratch3) (fun i : Fin 4 × Fin 2 => xsR i.1 i.2) (fun _ _ => rfl) S512x512 (fun _ => squeezes_S1x1x512x512_S512x512) xsR_apart xsR_fill c f₀

/-! ## The result -/

/-- The block of column block `r` and row block `s` of the result: the whole sum that ring `r` ends on the device before `s`. -/
def rblk (r : Fin 4) (s : Fin 8) : FVec F S512x512 .bf16 := part m r (pv r s) 7

theorem sh_own : ∀ (r : Fin 4) (c : Fin 8), pv r (⟨sh r c 7, sh_lt r c 7⟩ : Fin 8) = c := by decide

theorem fin_rblk (r : Fin 4) (k : ℕ) : ∀ c : Dev nD, fin m r c k = rblk m r ⟨sh r c (k + 7), sh_lt r c (k + 7)⟩ := by
  induction k with
  | zero =>
    intro c
    show part m r c 7 = part m r (pv r _) 7
    rw [show (⟨sh r c (0 + 7), sh_lt r c (0 + 7)⟩ : Fin 8) = ⟨sh r c 7, sh_lt r c 7⟩ from rfl, sh_own]
  | succ k ih =>
    intro c
    show fin m r (pv r c) k = _
    rw [ih (pv r c)]
    congr 2
    rw [← sh_nx r (pv r c) (k + 7), nx_pv]

/-- The result of every device. -/
def out : S4096x2048.Idx → Elt F .bf16 := fun x =>
  rblk m ⟨(x 1).val / 512, Nat.div_lt_of_lt_mul (x 1).isLt⟩ ⟨(x 0).val / 512, Nat.div_lt_of_lt_mul (x 0).isLt⟩
    (Fin.cons ⟨(x 0).val % 512, Nat.mod_lt _ (by decide)⟩ (Fin.cons ⟨(x 1).val % 512, Nat.mod_lt _ (by decide)⟩ finZeroElim))

theorem out_at (x : S4096x2048.Idx) (r : Fin 4) (s : Fin 8) (y : S512x512.Idx) (h0 : (x 0).val = 512 * s.val + (y 0).val) (h1 : (x 1).val = 512 * r.val + (y 1).val) :
    out m x = rblk m r s y := by
  have hy0 : (y 0).val < 512 := (y 0).isLt
  have hy1 : (y 1).val < 512 := (y 1).isLt
  unfold out
  congr 1
  · exact Fin.ext (by show (x 1).val / 512 = r.val; omega)
  · exact Fin.ext (by show (x 0).val / 512 = s.val; omega)
  · funext a
    match a with
    | ⟨0, _⟩ => exact Fin.ext (by show (x 0).val % 512 = (y 0).val; omega)
    | ⟨1, _⟩ => exact Fin.ext (by show (x 1).val % 512 = (y 1).val; omega)

theorem out_read (i : Fin 4 × Fin 8) : (outM i.1 c i.2).view.read (Elt F) (out m) = fin m i.1 c i.2.val := by
  rw [fin_rblk]
  funext y
  refine out_at m _ i.1 ⟨sh i.1 c (i.2.val + 7), sh_lt _ _ _⟩ y ?_ ?_
  · show offG i.1 c i.2 0 + 1 * (y 0).val = _
    rw [offG_eq, Nat.one_mul]; rfl
  · show offG i.1 c i.2 1 + 1 * (y 1).val = _
    rw [offG_eq, Nat.one_mul]; rfl

theorem join_out : (bigSep Finset.univ fun i : Fin 4 × Fin 8 => has c (outM i.1 c i.2) fullShare (fin m i.1 c i.2.val) : sProp 𝕄)
    ⊢ (((c : Thread nD τ).loc main_v1) ↦{fullShare} out m : sProp 𝕄) := by
  rw [bigSep_congr (s := Finset.univ) (fun (i : Fin 4 × Fin 8) _ => by rw [← out_read m c i])]
  exact join_buf (b := main_v1) (fun i : Fin 4 × Fin 8 => gR i.1 c i.2) (fun _ _ => rfl) (gR_apart c) (gR_fill c) c fullShare (out m)

end Cert.KernelIdeal.AR

end
-- ==== Proof.Ghost.lean ====
module

public import proofs.«01_k».proof.Proof.Parts
public import Idealize.SL.ProofMode.BigOp

/-! What each device is given at the start: the rights over semaphores, dealt out among the devices. -/

@[expose] public section

noncomputable section

namespace Cert.KernelIdeal.AR

open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## The families -/

/-- The semaphores but the barrier's, by use. -/
def oxE : ((Tr × Fin 2) ⊕ ((Fin 4 × Fin 2) ⊕ (Fin 4 × Fin 8))) ≃ Ox where
  toFun
    | .inl (x, d) => oxf x.1 x.2.1 x.2.2 d
    | .inr (.inl i) => oload i.1 i.2
    | .inr (.inr i) => ostore i.1 i.2
  invFun
    | .inl (p, r, k, d) => .inl ((p, r, k), d)
    | .inr (.inl i) => .inr (.inl i)
    | .inr (.inr i) => .inr (.inr i)
  left_inv := by rintro (⟨⟨p, r, k⟩, d⟩ | ⟨r, b⟩ | ⟨r, k⟩) <;> rfl
  right_inv := by rintro (⟨p, r, k, d⟩ | ⟨r, b⟩ | ⟨r, k⟩) <;> rfl

theorem two (Φ : Fin 2 → sProp 𝕄) : bigSep Finset.univ Φ = iprop(Φ 0 ∗ Φ 1) := bigSep_univ_eq_bigSepL [0, 1] (by decide) (by decide) Φ
theorem both (Φ : Bool → sProp 𝕄) : bigSep Finset.univ Φ = iprop(Φ false ∗ Φ true) := bigSep_univ_eq_bigSepL [false, true] (by decide) (by decide) Φ

theorem ox_split (Φ : Ox → sProp 𝕄) :
    bigSep Finset.univ Φ = iprop(bigSep Finset.univ (fun x : Tr => iprop(Φ (oxf x.1 x.2.1 x.2.2 0) ∗ Φ (oxf x.1 x.2.1 x.2.2 1)))
      ∗ bigSep Finset.univ (fun i : Fin 4 × Fin 2 => Φ (oload i.1 i.2)) ∗ bigSep Finset.univ (fun i : Fin 4 × Fin 8 => Φ (ostore i.1 i.2))) := by
  rw [BI.bigSep_univ_equiv oxE Φ, BI.bigSep_univ_sum, BI.bigSep_univ_sum, BI.bigSep_univ_prod]
  have h (x : Tr) : bigSep Finset.univ (fun d : Fin 2 => Φ (oxE (.inl (x, d)))) = iprop(Φ (oxf x.1 x.2.1 x.2.2 0) ∗ Φ (oxf x.1 x.2.1 x.2.2 1)) := two _
  rw [bigSep_congr (s := Finset.univ) fun x _ => h x]
  rfl

theorem cx_split (Φ : Cx → sProp 𝕄) : bigSep Finset.univ Φ = iprop(Φ none ∗ bigSep Finset.univ (fun x : Ox => Φ (some x))) := by
  rw [BI.bigSep_univ_equiv ((Equiv.sumComm _ _).trans (Equiv.optionEquivSumPUnit Ox).symm) Φ, BI.bigSep_univ_sum]
  have h : bigSep Finset.univ (fun u : PUnit.{1} => Φ (((Equiv.sumComm _ _).trans (Equiv.optionEquivSumPUnit Ox).symm) (.inl u))) = Φ none :=
    bigSep_univ_eq_bigSepL [PUnit.unit] (by decide) (by decide) _
  rw [h]
  rfl

/-! ## The rights to pay -/

abbrev Tk : Type := Bool ⊕ ((Tr × Fin 2) ⊕ ((Fin 4 × Fin 8) ⊕ (Fin 4 × Fin 8)))

/-- The semaphore, the round and the payer. -/
def tk : Tk → Cx × ℕ × Bool
  | .inl d => (none, 0, d)
  | .inr (.inl (x, d)) => (some (oxf x.1 x.2.1 x.2.2 d), 0, false)
  | .inr (.inr (.inl i)) => (some (oload i.1 (slot i.2)), i.2.val / 2, false)
  | .inr (.inr (.inr i)) => (some (ostore i.1 i.2), 0, false)

theorem slot_once : ∀ j j' : Fin 8, slot j = slot j' → j.val / 2 = j'.val / 2 → j = j' := by decide

theorem tk_inj : Function.Injective tk := by
  rintro (d | ⟨⟨p, r, k⟩, d⟩ | ⟨r, j⟩ | ⟨r, k⟩) (d' | ⟨⟨p', r', k'⟩, d'⟩ | ⟨r', j'⟩ | ⟨r', k'⟩) h
  · cases h; rfl
  · cases h
  · cases h
  · cases h
  · cases h
  · cases h; rfl
  · cases h
  · cases h
  · cases h
  · cases h
  · have h1 : oload r (slot j) = oload r' (slot j') := Option.some.inj (congrArg Prod.fst h)
    have h2 : j.val / 2 = j'.val / 2 := congrArg (fun x : Cx × ℕ × Bool => x.2.1) h
    have h3 : (r, slot j) = (r', slot j') := Sum.inl.inj (Sum.inr.inj h1)
    have h4 : r = r' := congrArg Prod.fst h3
    have h5 : j = j' := slot_once j j' (congrArg Prod.snd h3) h2
    subst h4 h5; rfl
  · cases h
  · cases h
  · cases h
  · cases h
  · cases h; rfl

def tokOf (ct : Dev nD × Tk) : GSem nD τ sig × ℕ × Bool := (kcell (ct.1, (tk ct.2).1), (tk ct.2).2)
theorem tokOf_inj : Function.Injective tokOf := by
  rintro ⟨c, t⟩ ⟨c', t'⟩ h
  have h1 : (c, (tk t).1) = (c', (tk t').1) := kcell_inj (congrArg Prod.fst h)
  have h2 : (tk t).2 = (tk t').2 := congrArg (fun x : GSem nD τ sig × ℕ × Bool => x.2) h
  have h3 : c = c' := congrArg Prod.fst h1
  have h4 : t = t' := tk_inj (Prod.ext (congrArg Prod.snd h1) h2)
  rw [h3, h4]

def ringCells : Finset (GSem nD τ sig) := Finset.univ.map ⟨kcell, kcell_inj⟩
def ringToks : Finset (GSem nD τ sig × ℕ × Bool) := Finset.univ.map ⟨tokOf, tokOf_inj⟩

def u₀ : UU := (initOf (Pipeline.cells cfgs cellOf_inj) (Pipeline.launchToks cfgs cellOf_inj), initOf ringCells ringToks)

/-- The rights to pay the loads and stores remain with the device. -/
def stay (c : Dev nD) : sProp 𝕄 :=
  iprop(bigSep Finset.univ (fun i : Fin 4 × Fin 8 => tok (cellO c (oload i.1 (slot i.2))) (i.2.val / 2))
    ∗ bigSep Finset.univ (fun i : Fin 4 × Fin 8 => tok (cellO c (ostore i.1 i.2)) 0))
/-- The rights to pay a device's semaphores, -/
def toks (c : Dev nD) : sProp 𝕄 :=
  iprop((dutyTok ER (barC c) 0 false ∗ dutyTok ER (barC c) 0 true)
    ∗ (bigSep Finset.univ (fun x : Tr => tok (cellO c (oxf x.1 x.2.1 x.2.2 0)) 0) ∗ bigSep Finset.univ (fun x : Tr => tok (cellO c (oxf x.1 x.2.1 x.2.2 1)) 0)) ∗ stay c)
/-- and those that the device itself needs. -/
def payToks (c : Dev nD) : sProp 𝕄 :=
  iprop((dutyTok ER (barC (nx 2 c)) 0 false ∗ dutyTok ER (barC (nx 0 c)) 0 true)
    ∗ (bigSep Finset.univ (fun x : Tr => tok (cellO c (oxf x.1 x.2.1 x.2.2 0)) 0) ∗ bigSep Finset.univ (fun x : Tr => tok (cellO (nx x.2.1 c) (oxf x.1 x.2.1 x.2.2 1)) 0)) ∗ stay c)

theorem toks_eq (c : Dev nD) : bigSep Finset.univ (fun t : Tk => (dutyTok ER (tokOf (c, t)).1 (tokOf (c, t)).2.1 (tokOf (c, t)).2.2 : sProp 𝕄)) = toks c := by
  rw [BI.bigSep_univ_sum, BI.bigSep_univ_sum, BI.bigSep_univ_sum, both, BI.bigSep_univ_prod]
  unfold toks stay
  rw [← bigSep_sep']
  have h (x : Tr) : bigSep Finset.univ (fun d : Fin 2 => (dutyTok ER (tokOf (c, .inr (.inl (x, d)))).1 (tokOf (c, .inr (.inl (x, d)))).2.1 (tokOf (c, .inr (.inl (x, d)))).2.2 : sProp 𝕄))
      = iprop(tok (cellO c (oxf x.1 x.2.1 x.2.2 0)) 0 ∗ tok (cellO c (oxf x.1 x.2.1 x.2.2 1)) 0) := two _
  rw [bigSep_congr (s := Finset.univ) fun x _ => h x]
  rfl

/-- A ring, as a permutation of the devices. -/
def nxE (r : Fin 4) : Dev nD ≃ Dev nD := ⟨nx r, pv r, pv_nx r, nx_pv r⟩
def nxT : Dev nD × Tr ≃ Dev nD × Tr where
  toFun y := (nx y.2.2.1 y.1, y.2)
  invFun y := (pv y.2.2.1 y.1, y.2)
  left_inv y := Prod.ext (pv_nx y.2.2.1 y.1) rfl
  right_inv y := Prod.ext (nx_pv y.2.2.1 y.1) rfl

theorem toks_around : (bigSep Finset.univ fun c : Dev nD => (toks c : sProp 𝕄)) = bigSep Finset.univ fun c : Dev nD => payToks c := by
  unfold toks payToks
  simp only [bigSep_sep']
  rw [BI.bigSep_univ_equiv (nxE 2) (fun c : Dev nD => (dutyTok ER (barC c) 0 false : sProp 𝕄)),
    BI.bigSep_univ_equiv (nxE 0) (fun c : Dev nD => (dutyTok ER (barC c) 0 true : sProp 𝕄)),
    ← BI.bigSep_univ_prod (fun y : Dev nD × Tr => (tok (cellO y.1 (oxf y.2.1 y.2.2.1 y.2.2.2 1)) 0 : sProp 𝕄)),
    ← BI.bigSep_univ_prod (fun y : Dev nD × Tr => (tok (cellO (nx y.2.2.1 y.1) (oxf y.2.1 y.2.2.1 y.2.2.2 1)) 0 : sProp 𝕄)),
    BI.bigSep_univ_equiv nxT (fun y : Dev nD × Tr => (tok (cellO y.1 (oxf y.2.1 y.2.2.1 y.2.2.2 1)) 0 : sProp 𝕄))]
  rfl

/-! ## What a device has before and after the protocols are set up -/

def G (c : Dev nD) : sProp 𝕄 :=
  iprop((bigSep Finset.univ fun k : Cx => roundState ER (Rd m) (kcell (c, k)) 0)
    ∗ (bigSep Finset.univ fun k : Cx => iprop(atPos ER (kcell (c, k)) 0 ∅ 0 ∗ reached ER (kcell (c, k)) 0)) ∗ toks c)

/-- What all know, but for the levels; -/
def know (K : Dev nD × Cx → ℕ) : sProp 𝕄 :=
  iprop(bigSep Finset.univ (fun ck : Dev nD × Cx => cellInv ER (Rd m) (K ck) (kcell ck))
    ∗ bigSep Finset.univ (fun ck : Dev nD × Cx => reached ER (kcell ck) 0))
instance know_persistent (K : Dev nD × Cx → ℕ) : BI.Persistent (know m K) := by unfold know; infer_instance

/-- what a device has. -/
def linear (c : Dev nD) : sProp 𝕄 := iprop((bigSep Finset.univ fun k : Cx => atPos ER (kcell (c, k)) 0 ∅ 0) ∗ payToks c)
def G' (c : Dev nD) : sProp 𝕄 := iprop(∃ K, know m K ∗ linear c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Cx => Φ (kcell (c, k)) := by
    unfold ringCells; rw [BI.bigSep_map, BI.bigSep_univ_prod]; rfl
  have hT : bigSep ringToks (fun x => (dutyTok ER x.1 x.2.1 x.2.2 : sProp 𝕄)) = bigSep Finset.univ fun c : Dev nD => toks c := by
    unfold ringToks; rw [BI.bigSep_map, BI.bigSep_univ_prod]
    exact bigSep_congr fun c _ => toks_eq c
  iintro HX
  imod (Rounds.fund ER (Rd m) ringCells ringToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat]
    · iexact Hat
    · iexact Hr
  iexact Htok

/-- The launch's one semaphore outside the kernel is the barrier's. -/
theorem unscopedSems0_eq (c : Dev nD) : (unscopedSems0 c : sProp 𝕄) = semVal (barC c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cx => semVal (kcell (c, k)) 0 : sProp 𝕄) := by
  rw [unscopedSems0_eq, cx_split]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cx => iprop(∃ κ : ℕ, cellInv ER (Rd m) κ (kcell (c, k))))
          ∗ (bigSep Finset.univ fun k : Cx => iprop(atPos ER (kcell (c, k)) 0 ∅ 0 ∗ reached ER (kcell (c, k)) 0)) ∗ toks c) := by
  have hall : iprop((bigSep Finset.univ fun k : Cx => semVal (kcell (c, k)) 0) ∗ bigSep Finset.univ fun k : Cx => roundState ER (Rd m) (kcell (c, k)) 0)
      ⊢ (|={Set.univ}=> bigSep Finset.univ fun k : Cx => iprop(∃ κ : ℕ, cellInv ER (Rd m) κ (kcell (c, k))) : sProp 𝕄) := by
    rw [← bigSep_sep']
    exact (bigSep_mono fun k _ => (Rounds.body_intro ER (Rd m) (kcell (c, k))).trans inv_alloc).trans (bigSep_fupd _ _)
  unfold G
  iintro ⟨Hos, Hus, Hst, Hat, Htok⟩
  ihave Hv := (sems0_eq (F := F) c) $$ [Hos Hus]
  · isplitl [Hos]
    · iexact Hos
    · iexact Hus
  imod (hall) $$ [Hv Hst] with Hinv
  · isplitl [Hv]
    · iexact Hv
    · iexact Hst
  imodintro
  isplitl [Hinv]; · iexact Hinv
  isplitl [Hat]; · iexact Hat
  iexact Htok

theorem regroup :
    (bigSep Finset.univ fun c : Dev nD => iprop((bigSep Finset.univ fun k : Cx => iprop(∃ κ : ℕ, cellInv ER (Rd m) κ (kcell (c, k))))
          ∗ (bigSep Finset.univ fun k : Cx => iprop(atPos ER (kcell (c, k)) 0 ∅ 0 ∗ reached ER (kcell (c, k)) 0)) ∗ toks c) : sProp 𝕄)
      ⊢ bigSep Finset.univ (G' m) := by
  have hone (K : Dev nD × Cx → ℕ) (c : Dev nD) : iprop(know m K ∗ linear c) ⊢ G' m c := by
    unfold G'
    iintro H
    iexists K
    iexact H
  rw [bigSep_sep', bigSep_sep', ← BI.bigSep_univ_prod (fun ck : Dev nD × Cx => iprop(∃ κ : ℕ, cellInv ER (Rd m) κ (kcell ck))),
    bigSep_congr (s := Finset.univ) (fun (c : Dev nD) _ => bigSep_sep' Finset.univ (fun k : Cx => (atPos ER (kcell (c, k)) 0 ∅ 0 : sProp 𝕄)) (fun k => reached ER (kcell (c, k)) 0)),
    bigSep_sep', ← BI.bigSep_univ_prod (fun ck : Dev nD × Cx => (reached ER (kcell ck) 0 : sProp 𝕄)), toks_around]
  iintro ⟨HI, ⟨Hat, #HR⟩, Htok⟩
  ihave HK := (BI.bigSep_exists_pi Finset.univ (fun (ck : Dev nD × Cx) (κ : ℕ) => (cellInv ER (Rd m) κ (kcell ck) : sProp 𝕄))) $$ HI
  icases HK with ⟨%K, #HI⟩
  iapply (BI.bigSep_with_persistent (R := know m K) fun c _ => hone K c)
  isplitr
  · unfold know
    isplitl
    · iexact HI
    · iexact HR
  · iapply (Entails.of_eq (bigSep_sep' Finset.univ (fun c : Dev nD => bigSep Finset.univ fun k : Cx => (atPos ER (kcell (c, k)) 0 ∅ 0 : sProp 𝕄)) payToks).symm)
    isplitl [Hat]
    · iexact Hat
    · iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The right to wait -/

theorem owe_bar (d c : Dev nD) (l : List Tr) : owe d l (barC c) () = 0 := by
  by_contra h
  obtain ⟨x, _, e⟩ := owe_pos d l (Nat.pos_of_ne_zero h)
  exact absurd (congrArg Prod.snd (kcell_inj e)) (by exact fun h => by cases h)

theorem land_iff (d c : Dev nD) (x y : Tr) : (cellO c (oxf y.1 y.2.1 y.2.2 1) = landCell d x) ↔ (x = y ∧ d = pv y.2.1 c) := by
  constructor
  · intro h
    have h' := kcell_inj h
    have h1 : oxf y.1 y.2.1 y.2.2 1 = oxf x.1 x.2.1 x.2.2 1 := Option.some.inj (congrArg Prod.snd h')
    have h2 : x = y := by
      obtain ⟨a, b, e⟩ := x
      obtain ⟨a', b', e'⟩ := y
      cases h1; rfl
    subst h2
    have h3 : c = nx x.2.1 d := congrArg Prod.fst h'
    exact ⟨rfl, by rw [h3, pv_nx]⟩
  · rintro ⟨rfl, rfl⟩
    show _ = kcell (nx x.2.1 (pv x.2.1 c), _)
    rw [nx_pv]

theorem owe_land (d c : Dev nD) (y : Tr) (l : List Tr) : owe d l (cellO c (oxf y.1 y.2.1 y.2.2 1)) () = if d = pv y.2.1 c then l.count y * NB else 0 := by
  induction l with
  | nil => unfold owe; rw [List.count_nil, Nat.zero_mul, ite_self]; rfl
  | cons x l ih =>
    unfold owe
    rw [Pi.add_apply, Finsupp.add_apply, tallyAt_apply, ih, List.count_cons]
    by_cases hd : d = pv y.2.1 c
    · by_cases hx : x = y
      · rw [if_pos hd, if_pos hd, if_pos ⟨(land_iff d c x y).mpr ⟨hx, hd⟩, rfl⟩, if_pos (by rw [hx]; exact beq_self_eq_true y), Nat.add_mul, Nat.one_mul]
      · rw [if_pos hd, if_pos hd, if_neg (fun h => hx ((land_iff d c x y).mp h.1).1), if_neg (fun h => hx (eq_of_beq h)), Nat.add_zero, Nat.add_zero]
    · rw [if_neg hd, if_neg hd, if_neg (fun h => hd ((land_iff d c x y).mp h.1).2)]

theorem order_once : ∀ y : Tr, order.count y = 1 := by decide +kernel

theorem bar_iff (a b : Dev nD) : (barC a = barC b) ↔ (a = b) := ⟨fun h => congrArg Prod.fst (kcell_inj h), fun h => h ▸ rfl⟩
theorem nx_iff (r : Fin 4) (c d : Dev nD) : (c = nx r d) ↔ (d = pv r c) := ⟨fun h => by rw [h, pv_nx], fun h => by rw [h, nx_pv]⟩

theorem owed_bar (d c : Dev nD) : O₀ d (barC c) () = (if d = pv 0 c then 1 else 0) + (if d = pv 2 c then 1 else 0) := by
  unfold O₀ O₁
  rw [Pi.add_apply, Finsupp.add_apply, Pi.add_apply, Finsupp.add_apply, owe_bar, tallyAt_apply, tallyAt_apply, Nat.zero_add]
  congr 1
  · exact if_congr (by rw [bar_iff, nx_iff]; exact and_iff_left rfl) rfl rfl
  · exact if_congr (by rw [bar_iff, nx_iff]; exact and_iff_left rfl) rfl rfl

theorem owed_land (d c : Dev nD) (y : Tr) : O₀ d (cellO c (oxf y.1 y.2.1 y.2.2 1)) () = if d = pv y.2.1 c then NB else 0 := by
  have hb (e : Dev nD) : ¬(cellO c (oxf y.1 y.2.1 y.2.2 1) = barC e ∧ () = ()) := fun h =>
    absurd (congrArg Prod.snd (kcell_inj h.1)) (by exact fun h => by cases h)
  unfold O₀ O₁
  rw [Pi.add_apply, Finsupp.add_apply, Pi.add_apply, Finsupp.add_apply, owe_land, order_once, Nat.one_mul, tallyAt_apply, tallyAt_apply, if_neg (hb _), if_neg (hb _)]
  rfl

theorem launch_bar (c : Dev nD) :
    tallyOn (barC c) (launchCredit (Pipeline.owing O₀) 0 (barC c)) = (tallyAt (barC c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (pv 0 c) fun _ => 1, Finset.sum_ite_eq' Finset.univ (pv 2 c) fun _ => 1, if_pos (Finset.mem_univ _), if_pos (Finset.mem_univ _)]

theorem launch_land (c : Dev nD) (y : Tr) :
    tallyOn (cellO c (oxf y.1 y.2.1 y.2.2 1)) (launchCredit (Pipeline.owing O₀) 0 (cellO c (oxf y.1 y.2.1 y.2.2 1)))
      = (tallyAt (cellO c (oxf y.1 y.2.1 y.2.2 1)) () NB : CellTallies nD τ sig Unit) := by
  unfold tallyAt; refine congrArg _ (Finsupp.ext fun u => ?_); cases u
  rw [Pipeline.launchCredit_owing, Finsupp.single_eq_same, Finset.sum_congr rfl fun d _ => owed_land d c y, Finset.sum_ite_eq' Finset.univ (pv y.2.1 c) fun _ => NB,
    if_pos (Finset.mem_univ _)]

theorem creds (c : Dev nD) :
    (Pipeline.launchCred O₀ c : sProp 𝕄) ⊢ iprop(cred (tallyAt (barC c) () 2) ∗ bigSep Finset.univ (fun x : Tr => tick c (oxf x.1 x.2.1 x.2.2 1))) := by
  have hall : (Pipeline.launchCred O₀ c : sProp 𝕄) ⊢ bigSep Finset.univ fun k : Cx => cred (tallyOn (kcell (c, k)) (launchCredit (Pipeline.owing O₀) 0 (kcell (c, k)))) := by
    unfold Pipeline.launchCred
    have hs (Φ : SemLoc sig → sProp 𝕄) : bigSep Finset.univ Φ ⊢ bigSep (Finset.univ.map ⟨csem, csem_inj⟩) Φ := BI.bigSep_subset (Finset.subset_univ _)
    exact (hs _).trans (Entails.of_eq (by rw [BI.bigSep_map]; rfl))
  refine hall.trans ?_
  rw [cx_split, ox_split, launch_bar]
  have hx (x : Tr) : iprop(cred (tallyOn (cellO c (oxf x.1 x.2.1 x.2.2 0)) (launchCredit (Pipeline.owing O₀) 0 (cellO c (oxf x.1 x.2.1 x.2.2 0))))
      ∗ cred (tallyOn (cellO c (oxf x.1 x.2.1 x.2.2 1)) (launchCredit (Pipeline.owing O₀) 0 (cellO c (oxf x.1 x.2.1 x.2.2 1)))))
      ⊢ (tick c (oxf x.1 x.2.1 x.2.2 1) : sProp 𝕄) := by
    rw [launch_land]
    iintro ⟨-, H⟩
    iexact H
  have hy {Φ Ψ : Tr → sProp 𝕄} (h : ∀ x, Φ x ⊢ Ψ x) : bigSep Finset.univ Φ ⊢ bigSep Finset.univ Ψ := bigSep_mono fun x _ => h x
  iintro ⟨H1, H2, -, -⟩
  isplitl [H1]; · iexact H1
  iapply (hy hx)
  iexact H2

end Cert.KernelIdeal.AR

end
-- ==== Proof.Same.lean ====
module

public import proofs.«01_k».proof.Proof.Script

/-! The printed function is the list of blocks of `Script`: operation by operation. -/

@[expose] public section

noncomputable section

namespace Cert.KernelIdeal.AR

open Idealize.ShloMosaic Idealize.ShloMosaic.TcCoe Idealize.SL Idealize.SL.Sem
open Cert.KernelIdeal Cert.KernelIdeal.Gen

variable {F : FTy → Type} [FloatOps F]

/-- Both sides begin with the same operation. -/
theorem step {β : Type} {e e' : TpuEff nD τ sig (Elt F) Λ₀ .tc β} {k k' : β → KP F PUnit} {l : List (KP F PUnit)}
    (he : e = e') (h : ∀ x, k x = seqL (k' x :: l)) : Prog.op e k = seqL (Prog.op e' k' :: l) := by
  rw [he]
  exact congrArg (Prog.op e') (funext h)

/-- A block is at its end. -/
theorem done {p : KP F PUnit} {x : PUnit} {l : List (KP F PUnit)} (h : p = seqL l) : p = seqL (.ret x :: l) := h

set_option maxRecDepth 65536 in
set_option maxHeartbeats 0 in
theorem body_eq (t : Fin cfg0.N) : bodyAt0 (F := F) t = Prog.op .deviceId script := by
  unfold bodyAt0 cc0_body k0_part134 script
  simp (config := {implicitDefEqProofs := false})  only [rings, startRow, rsRow, turnRow, agRow, lastRow, shake, List.map, List.flatMap, List.append, List.append_assoc, List.cons_append, List.nil_append, List.append_nil, List.flatten]
  simp (config := {implicitDefEqProofs := false})  only [loadStart, loadWait, first, add, putSb, rsStart, rsSent, rsRecv, keep, agStart, agWait, outStart, outWait, semSignalWord, semWaitWord, Prog.lift, Prog.bind_op, Prog.bind_ret]
  simp (config := {implicitDefEqProofs := false})  only [k0_part1, k0_part2, k0_part3, k0_part4, k0_part5, k0_part6, k0_part7, k0_part8, semSignalWord, semWaitWord, Prog.bind_assoc, Prog.lift, Prog.bind_op, Prog.pure_eq_ret, Prog.bind_ret]
  refine op_same fun c => ?_
  repeat (first | with_reducible refine done ?_ | ((with_reducible refine step ?_ fun _ => ?_); exact rfl))
  simp (config := {implicitDefEqProofs := false})  only [k0_part9, k0_part10, k0_part11, k0_part12, k0_part13, k0_part14, k0_part15, k0_part16, semSignalWord, semWaitWord, Prog.bind_assoc, Prog.lift, Prog.bind_op, Prog.pure_eq_ret, Prog.bind_ret]
  repeat (first | with_reducible refine done ?_ | ((with_reducible refine step ?_ fun _ => ?_); exact rfl))
  simp (config := {implicitDefEqProofs := false})  only [k0_part17, k0_part18, k0_part19, k0_part20, k0_part21, k0_part22, k0_part23, k0_part24, semSignalWord, semWaitWord, Prog.bind_assoc, Prog.lift, Prog.bind_op, Prog.pure_eq_ret, Prog.bind_ret]
  repeat (first | with_reducible refine done ?_ | ((with_reducible refine step ?_ fun _ => ?_); exact rfl))
  simp (config := {implicitDefEqProofs := false})  only [k0_part25, k0_part26, k0_part27, k0_part28, k0_part29, k0_part30, k0_part31, k0_part32, semSignalWord, semWaitWord, Prog.bind_assoc, Prog.lift, Prog.bind_op, Prog.pure_eq_ret, Prog.bind_ret]
  repeat (first | with_reducible refine done ?_ | ((with_reducible refine step ?_ fun _ => ?_); exact rfl))
  simp (config := {implicitDefEqProofs := false})  only [k0_part33, k0_part34, k0_part35, k0_part36, k0_part37, k0_part38, k0_part39, k0_part40, semSignalWord, semWaitWord, Prog.bind_assoc, Prog.lift, Prog.bind_op, Prog.pure_eq_ret, Prog.bind_ret]
  repeat (first | with_reducible refine done ?_ | ((with_reducible refine step ?_ fun _ => ?_); exact rfl))
  simp (config := {implicitDefEqProofs := false})  only [k0_part41, k0_part42, k0_part43, k0_part44, k0_part45, k0_part46, k0_part47, k0_part48, semSignalWord, semWaitWord, Prog.bind_assoc, Prog.lift, Prog.bind_op, Prog.pure_eq_ret, Prog.bind_ret]
  repeat (first | with_reducible refine done ?_ | ((with_reducible refine step ?_ fun _ => ?_); exact rfl))
  simp (config := {implicitDefEqProofs := false})  only [k0_part49, k0_part50, k0_part51, k0_part52, k0_part53, k0_part54, k0_part55, k0_part56, semSignalWord, semWaitWord, Prog.bind_assoc, Prog.lift, Prog.bind_op, Prog.pure_eq_ret, Prog.bind_ret]
  repeat (first | with_reducible refine done ?_ | ((with_reducible refine step ?_ fun _ => ?_); exact rfl))
  simp (config := {implicitDefEqProofs := false})  only [k0_part57, k0_part58, k0_part59, k0_part60, semSignalWord, semWaitWord, Prog.bind_assoc, Prog.lift, Prog.bind_op, Prog.pure_eq_ret, Prog.bind_ret]
  repeat (first | with_reducible refine done ?_ | ((with_reducible refine step ?_ fun _ => ?_); exact rfl))
  simp (config := {implicitDefEqProofs := false})  only [k0_part135, k0_part61, k0_part62, k0_part63, k0_part64, k0_part65, k0_part66, k0_part67, k0_part68, semSignalWord, semWaitWord, Prog.bind_assoc, Prog.lift, Prog.bind_op, Prog.pure_eq_ret, Prog.bind_ret]
  repeat (first | with_reducible refine done ?_ | ((with_reducible refine step ?_ fun _ => ?_); exact rfl))
  simp (config := {implicitDefEqProofs := false})  only [k0_part69, k0_part70, k0_part71, k0_part72, k0_part73, k0_part74, k0_part75, k0_part76, semSignalWord, semWaitWord, Prog.bind_assoc, Prog.lift, Prog.bind_op, Prog.pure_eq_ret, Prog.bind_ret]
  repeat (first | with_reducible refine done ?_ | ((with_reducible refine step ?_ fun _ => ?_); exact rfl))
  simp (config := {implicitDefEqProofs := false})  only [k0_part77, k0_part78, k0_part79, k0_part80, k0_part81, k0_part82, k0_part83, k0_part84, semSignalWord, semWaitWord, Prog.bind_assoc, Prog.lift, Prog.bind_op, Prog.pure_eq_ret, Prog.bind_ret]
  repeat (first | with_reducible refine done ?_ | ((with_reducible refine step ?_ fun _ => ?_); exact rfl))
  simp (config := {implicitDefEqProofs := false})  only [k0_part85, k0_part86, k0_part87, k0_part88, k0_part89, k0_part90, k0_part91, k0_part92, semSignalWord, semWaitWord, Prog.bind_assoc, Prog.lift, Prog.bind_op, Prog.pure_eq_ret, Prog.bind_ret]
  repeat (first | with_reducible refine done ?_ | ((with_reducible refine step ?_ fun _ => ?_); exact rfl))
  simp (config := {implicitDefEqProofs := false})  only [k0_part93, k0_part94, k0_part95, k0_part96, k0_part97, k0_part98, k0_part99, k0_part100, semSignalWord, semWaitWord, Prog.bind_assoc, Prog.lift, Prog.bind_op, Prog.pure_eq_ret, Prog.bind_ret]
  repeat (first | with_reducible refine done ?_ | ((with_reducible refine step ?_ fun _ => ?_); exact rfl))
  simp (config := {implicitDefEqProofs := false})  only [k0_part101, k0_part102, k0_part103, k0_part104, k0_part105, k0_part106, k0_part107, k0_part108, semSignalWord, semWaitWord, Prog.bind_assoc, Prog.lift, Prog.bind_op, Prog.pure_eq_ret, Prog.bind_ret]
  repeat (first | with_reducible refine done ?_ | ((with_reducible refine step ?_ fun _ => ?_); exact rfl))
  simp (config := {implicitDefEqProofs := false})  only [k0_part109, k0_part110, k0_part111, k0_part112, k0_part113, k0_part114, k0_part115, k0_part116, semSignalWord, semWaitWord, Prog.bind_assoc, Prog.lift, Prog.bind_op, Prog.pure_eq_ret, Prog.bind_ret]
  repeat (first | with_reducible refine done ?_ | ((with_reducible refine step ?_ fun _ => ?_); exact rfl))
  simp (config := {implicitDefEqProofs := false})  only [k0_part117, k0_part118, k0_part119, k0_part120, semSignalWord, semWaitWord, Prog.bind_assoc, Prog.lift, Prog.bind_op, Prog.pure_eq_ret, Prog.bind_ret]
  repeat (first | with_reducible refine done ?_ | ((with_reducible refine step ?_ fun _ => ?_); exact rfl))
  simp (config := {implicitDefEqProofs := false})  only [k0_part136, k0_part121, k0_part122, k0_part123, k0_part124, k0_part125, k0_part126, k0_part127, k0_part128, semSignalWord, semWaitWord, Prog.bind_assoc, Prog.lift, Prog.bind_op, Prog.pure_eq_ret, Prog.bind_ret]
  repeat (first | with_reducible refine done ?_ | ((with_reducible refine step ?_ fun _ => ?_); exact rfl))
  simp (config := {implicitDefEqProofs := false})  only [k0_part129, k0_part130, k0_part131, k0_part132, k0_part133, semSignalWord, semWaitWord, Prog.bind_assoc, Prog.lift, Prog.bind_op, Prog.pure_eq_ret, Prog.bind_ret]
  repeat (first | with_reducible refine done ?_ | ((with_reducible refine step ?_ fun _ => ?_); exact rfl))
  exact rfl

end Cert.KernelIdeal.AR

end
-- ==== Proof.Launch.lean ====
module

public import Idealize.ShloMosaic.Lib.Pipeline.CollectiveSegs
public import proofs.«01_k».proof.Proof.Ghost
public import proofs.«01_k».proof.Proof.Same

/-! The run of the program on all devices. -/

@[expose] public section

noncomputable section

namespace Cert.KernelIdeal.AR

open Idealize.ShloMosaic Idealize.ShloMosaic.TcCoe Idealize.SL Idealize.SL.RA Idealize.SL.BI Idealize.SL.Sem
open scoped Idealize.SL.BI
open Idealize.SL.BI.BIBase Idealize.SL.BI.Laws Idealize.SL.ProofMode
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

attribute [local irreducible] cc0_body script

theorem body_is (t : Fin cfg0.N) : defs₀ (F := F) .tc cfg0.body (cfg0.bodyArgs t (cfg0.slots t)) = bodyAt0 (F := F) t := rfl

theorem body_obligation (c : Dev nD) : BodyObligation (dats (F := F) m 0 c) (defs₀ (F := F)) 𝒱₀ () Set.univ := fun t => by
  rw [fin_N0 t]
  rw [body_is]
  rw [body_eq]
  rw [wp_deviceId]
  show iprop(Φ₀ m c ∗ (dats m 0 c).owesAt () t0_0.castSucc ∗ bigSep (Finset.univ : Finset (Fin 0)) _)
    ⊢ wp frame (wpE (defs₀ (F := F)) 𝒱₀ c none) Set.univ (script c)
      (fun _ => iprop(Φ₁ m c ∗ (dats m 0 c).owesAt () t0_0.succ ∗ bigSep (Finset.univ : Finset (Fin 0)) _))
  rw [show (Finset.univ : Finset (Fin 0)) = ∅ from rfl, BI.bigSep_empty, BI.bigSep_empty]
  unfold Dat.owesAt Pipeline.owesWithin
  rw [show (dats m 0 c).owed t0_0.castSucc = O₀ c from rfl, show (dats m 0 c).owed t0_0.succ = 0 from rfl]
  iintro ⟨HΦ, ⟨%W, %hW, HO⟩, -⟩
  iapply (sound m W) $$ [HΦ HO]
  · isplitl [HΦ]
    · iexact HΦ
    · iexact HO
  iintro ⟨HΦ, ⟨%W', HO⟩⟩
  isplitl [HΦ]; · iexact HΦ
  isplitl
  · iexists W'
    isplitr; · ipureintro; exact fun _ _ => Or.inl trivial
    iexact HO
  · iempintro

/-! ## From the launch to the start of the body -/

/-- The launch's share, on one device. -/
def X (c : Dev nD) : sProp 𝕄 :=
  iprop(G' m c ∗ levAts L lv ∗ (cred (tallyAt (barC c) () 2) ∗ bigSep Finset.univ (fun x : Tr => tick c (oxf x.1 x.2.1 x.2.2 1)))
    ∗ (((c : Thread nD τ).loc main_arg0) ↦{fullShare} m ((c : Thread nD τ).loc main_arg0))
    ∗ (((c : Thread nD τ).loc main_v1) ↦{fullShare} m ((c : Thread nD τ).loc main_v1)))

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  unfold X
  iintro ⟨⟨Hx, Ho⟩, Hlev, Hcr, -, HG⟩
  ihave Hc := (creds (F := F) c) $$ Hcr
  imodintro
  isplitl
  · isplitl [HG]; · iexact HG
    isplitl [Hlev]; · iexact Hlev
    isplitl [Hc]; · iexact Hc
    isplitl [Hx]; · iexact Hx
    iexact Ho
  · iempintro

theorem osem_scoped : ∀ k : Ox, (osem k).isScoped .tc = true := by decide

/-- The first piece and the others. -/
def pieces : PUnit.{1} ⊕ Fin 7 ≃ Fin 8 where
  toFun | .inl _ => 0 | .inr k => k.succ
  invFun k := if h : k = 0 then .inl ⟨⟩ else .inr (k.pred h)
  left_inv := by rintro (_ | k); rfl; revert k; decide
  right_inv := by decide

theorem row_split (Φ : Fin 4 × Fin 8 → sProp 𝕄) :
    bigSep Finset.univ Φ = iprop(bigSep Finset.univ (fun r : Fin 4 => Φ (r, 0)) ∗ bigSep Finset.univ (fun i : Fin 4 × Fin 7 => Φ (i.1, i.2.succ))) := by
  rw [BI.bigSep_univ_prod, BI.bigSep_univ_prod, ← bigSep_sep']
  refine bigSep_congr fun r _ => ?_
  rw [BI.bigSep_univ_equiv pieces, BI.bigSep_univ_sum]
  have h : bigSep Finset.univ (fun u : PUnit.{1} => Φ (r, pieces (.inl u))) = Φ (r, 0) := bigSep_univ_eq_bigSepL [PUnit.unit] (by decide) (by decide) _
  rw [h]
  rfl

theorem tr_split (Φ : Tr → sProp 𝕄) :
    bigSep Finset.univ Φ = iprop(bigSep Finset.univ (fun i : Fin 4 × Fin 7 => Φ (0, i)) ∗ bigSep Finset.univ (fun i : Fin 4 × Fin 7 => Φ (1, i))) := by
  rw [BI.bigSep_univ_prod, two]

attribute [local irreducible] xM outM gtM sbM rvM xsM xfS ldS stS NB NL

/-- The places where transfers land, and the places of the device's own sums. -/
theorem lands (c : Dev nD) :
    iprop(bigSep Finset.univ (fun i : Fin 4 × Fin 7 => any c (rvM i.1 i.2)) ∗ bigSep Finset.univ (fun i : Fin 4 × Fin 8 => any c (gtM i.1 c i.2)))
      ⊢ (iprop(bigSep Finset.univ (fun x : Tr => land c x) ∗ bigSep Finset.univ (fun r : Fin 4 => any c (gtM r c 0))) : sProp 𝕄) := by
  rw [row_split (fun i : Fin 4 × Fin 8 => any c (gtM i.1 c i.2)), tr_split (fun x => land c x)]
  iintro ⟨H1, H2, H3⟩
  isplitr [H2]
  · isplitl [H1]
    · iexact H1
    · iexact H3
  · iexact H2

theorem each {I : Type} [Fintype I] [DecidableEq I] {R : sProp 𝕄} [BI.Persistent R] {Φ Ψ : I → sProp 𝕄}
    (h : ∀ i, iprop(R ∗ Φ i) ⊢ Ψ i) : iprop(R ∗ bigSep Finset.univ Φ) ⊢ bigSep Finset.univ Ψ :=
  BI.bigSep_with_persistent fun i _ => h i

theorem all_pos (K : Dev nD × Cx → ℕ) (c : Dev nD) :
    iprop(recs m K ∗ bigSep Finset.univ fun k : Cx => atPos ER (kcell (c, k)) 0 ∅ 0)
      ⊢ iprop(atPos ER (barC c) 0 ∅ 0 ∗ bigSep Finset.univ (fun x : Tr => iprop(pos (cellO c (oxf x.1 x.2.1 x.2.2 0)) 0 ∗ pos (cellO c (oxf x.1 x.2.1 x.2.2 1)) 0))
        ∗ bigSep Finset.univ (fun i : Fin 4 × Fin 2 => pos (cellO c (oload i.1 i.2)) 0) ∗ bigSep Finset.univ (fun i : Fin 4 × Fin 8 => pos (cellO c (ostore i.1 i.2)) 0)) := by
  have h (x : Ox) : iprop(recs m K ∗ atPos ER (cellO c x) 0 ∅ 0) ⊢ pos (cellO c x) 0 := by
    unfold pos
    iintro ⟨#Hr, H⟩
    isplitl; · iexact H
    iapply (recs_reached m K (c, some x))
    iexact Hr
  rw [cx_split, ← ox_split (fun x : Ox => pos (cellO c x) 0)]
  iintro ⟨#Hr, Hb, Hx⟩
  isplitl [Hb]; · iexact Hb
  iapply (each (R := recs m K) h)
  isplitr; · iexact Hr
  iexact Hx

/-- What the device has of its transfers. -/
theorem all_unsent (c : Dev nD) :
    iprop((bigSep Finset.univ (fun x : Tr => tok (cellO c (oxf x.1 x.2.1 x.2.2 0)) 0) ∗ bigSep Finset.univ (fun x : Tr => tok (cellO (nx x.2.1 c) (oxf x.1 x.2.1 x.2.2 1)) 0))
        ∗ bigSep Finset.univ (fun x : Tr => iprop(pos (cellO c (oxf x.1 x.2.1 x.2.2 0)) 0 ∗ pos (cellO c (oxf x.1 x.2.1 x.2.2 1)) 0))
        ∗ bigSep Finset.univ (fun x : Tr => tick c (oxf x.1 x.2.1 x.2.2 1)))
      ⊢ (bigSep Finset.univ (fun x : Tr => unsent c x) : sProp 𝕄) := by
  have h (x : Tr) : iprop((tok (cellO c (oxf x.1 x.2.1 x.2.2 0)) 0 ∗ tok (cellO (nx x.2.1 c) (oxf x.1 x.2.1 x.2.2 1)) 0)
        ∗ (pos (cellO c (oxf x.1 x.2.1 x.2.2 0)) 0 ∗ pos (cellO c (oxf x.1 x.2.1 x.2.2 1)) 0) ∗ tick c (oxf x.1 x.2.1 x.2.2 1)) ⊢ (unsent c x : sProp 𝕄) := by
    unfold unsent
    iintro ⟨⟨H1, H2⟩, ⟨H3, H4⟩, H5⟩
    isplitl [H1]; · iexact H1
    isplitl [H2]; · iexact H2
    isplitl [H3]; · iexact H3
    isplitl [H4]; · iexact H4
    iexact H5
  rw [← bigSep_sep', ← bigSep_sep', ← bigSep_sep']
  exact bigSep_mono fun x _ => h x

theorem Dv_start (c : Dev nD) : Dv m c σ₀ = iprop(bigSep Finset.univ (fun x : Tr => unsent c x) ∗ emp ∗ bigSep Finset.univ (fun r => any c (sbM r))
    ∗ bigSep Finset.univ (fun r => any c (gtM r c 0)) ∗ bigSep (Finset.univ : Finset (Fin 4 × Fin 8)) (fun _ => (BI.emp : sProp 𝕄))
    ∗ bigSep (Finset.univ : Finset (Fin 4 × Fin 8)) (fun _ => (BI.emp : sProp 𝕄)) ∗ bigSep Finset.univ (fun i : Fin 4 × Fin 2 => any c (xsM i.1 i.2))
    ∗ bigSep Finset.univ (fun i : Fin 4 × Fin 8 => iprop(tok (cellO c (oload i.1 (slot i.2))) (i.2.val / 2) ∗ has c (xM i.1 c i.2) fullShare (xblk m i.1 c i.2)))
    ∗ bigSep Finset.univ (fun i : Fin 4 × Fin 2 => pos (cellO c (oload i.1 i.2)) 0)
    ∗ bigSep Finset.univ (fun i : Fin 4 × Fin 8 => iprop(tok (cellO c (ostore i.1 i.2)) 0 ∗ pos (cellO c (ostore i.1 i.2)) 0 ∗ any c (outM i.1 c i.2)))) := rfl

theorem phi0 (c : Dev nD) :
    iprop(X m c ∗ Pipeline.prefHeld Pipeline.Prefetch.none c (fun _ => fullShare.right) (fun k => k.elim0) ∗ Pipeline.scopedRest cfg0.spec c) ⊢ Φ₀ m c := by
  rw [scopedRest0_eq]
  unfold X G' know Φ₀ hand linear payToks stay
  simp only [Dv_start, bigSep_sep', BI.bigSep_emp_const]
  iintro ⟨⟨⟨%K, ⟨Hi, Hr⟩, Hat, ⟨⟨Htb1, Htb2⟩, Htx, Htl, Hts⟩⟩, Hlev, ⟨Hcb, Hcx⟩, Hx, Ho⟩, -, ⟨%f0, H0⟩, ⟨%f1, H1⟩, ⟨%f2, H2⟩, ⟨%f3, H3⟩⟩
  iexists K
  ihave #HR := (show iprop(bigSep Finset.univ (fun ck : Dev nD × Cx => cellInv ER (Rd m) (K ck) (kcell ck))
    ∗ bigSep Finset.univ (fun ck : Dev nD × Cx => reached ER (kcell ck) 0) ∗ levAts L lv) ⊢ recs m K from BI.Entails.refl _) $$ [Hi Hr Hlev]
  · isplitl [Hi]; · iexact Hi
    isplitl [Hr]; · iexact Hr
    iexact Hlev
  ihave Hp := (all_pos m K c) $$ [Hat]
  · isplitr; · iexact HR
    iexact Hat
  icases Hp with ⟨Hpb, Hpx, Hpl, Hps⟩
  ihave Hu := (all_unsent (F := F) c) $$ [Htx Hpx Hcx]
  · isplitl [Htx]; · iexact Htx
    isplitl [Hpx]; · iexact Hpx
    iexact Hcx
  ihave Hx := (cut_arg m c) $$ Hx
  ihave Ho := (cut_out c _) $$ Ho
  ihave H0 := (cut_sb c f0) $$ H0
  ihave H1 := (cut_rv c f1) $$ H1
  ihave H2 := (cut_gt c f2) $$ H2
  ihave H3 := (cut_xs c f3) $$ H3
  ihave Hl := (lands (F := F) c) $$ [H1 H2]
  · isplitl [H1]
    · iexact H1
    · iexact H2
  icases Hl with ⟨Hl, Hg⟩
  isplitr; · iexact HR
  isplitl [Hu H0 Hg H3 Htl Hx Hpl Hts Hps Ho]
  · isplitl [Hu]; · iexact Hu
    isplitr; · iempintro
    isplitl [H0]; · iexact H0
    isplitl [Hg]; · iexact Hg
    isplitr; · iempintro
    isplitr; · iempintro
    isplitl [H3]; · iexact H3
    isplitl [Htl Hx]
    · isplitl [Htl]
      · iexact Htl
      · iexact Hx
    isplitl [Hpl]; · iexact Hpl
    isplitl [Hts]; · iexact Hts
    isplitl [Hps]; · iexact Hps
    iexact Ho
  isplitl [Hl]; · iexact Hl
  isplitl [Htb1]; · iexact Htb1
  isplitl [Htb2]; · iexact Htb2
  isplitl [Hpb]; · iexact Hpb
  iexact Hcb

/-! ## From the end of the body -/

def Y (c : Dev nD) : sProp 𝕄 :=
  iprop((((c : Thread nD τ).loc main_arg0) ↦{fullShare} m ((c : Thread nD τ).loc main_arg0))
    ∗ (((c : Thread nD τ).loc main_v1) ↦{fullShare} out m) ∗ unscopedSems0 c)

theorem got_any (c : Dev nD) : bigSep Finset.univ (fun x : Tr => got m c x) ⊢ (bigSep Finset.univ (fun i : Fin 4 × Fin 7 => any c (rvM i.1 i.2)) : sProp 𝕄) := by
  have h (i : Fin 4 × Fin 7) : got m c (0, i) ⊢ (any c (rvM i.1 i.2) : sProp 𝕄) := to_any (rvM i.1 i.2) _
  have hall : bigSep Finset.univ (fun i : Fin 4 × Fin 7 => got m c (0, i)) ⊢ (bigSep Finset.univ (fun i : Fin 4 × Fin 7 => any c (rvM i.1 i.2)) : sProp 𝕄) :=
    bigSep_mono fun i _ => h i
  rw [tr_split]
  iintro ⟨H, -⟩
  iapply hall
  iexact H

theorem gt_any (c : Dev nD) :
    iprop(bigSep Finset.univ (fun i : Fin 4 × Fin 8 => has c (gtM i.1 c i.2) fullShare.left (fin m i.1 c i.2.val))
        ∗ bigSep Finset.univ (fun i : Fin 4 × Fin 8 => has c (gtM i.1 c i.2) fullShare.right (fin m i.1 c i.2.val)))
      ⊢ (bigSep Finset.univ (fun i : Fin 4 × Fin 8 => any c (gtM i.1 c i.2)) : sProp 𝕄) := by
  have h (i : Fin 4 × Fin 8) : iprop(has c (gtM i.1 c i.2) fullShare.left (fin m i.1 c i.2.val) ∗ has c (gtM i.1 c i.2) fullShare.right (fin m i.1 c i.2.val))
      ⊢ (any c (gtM i.1 c i.2) : sProp 𝕄) := ((owns_halves (c : Thread nD τ) (gtM i.1 c i.2) fullShare (fin m i.1 c i.2.val)).2).trans (to_any (gtM i.1 c i.2) _)
  rw [← bigSep_sep']
  exact bigSep_mono fun i _ => h i

theorem phi1 (c : Dev nD) : Φ₁ m c ⊢ iprop(Y m c ∗ Pipeline.ownSems0 osem c ∗ Pipeline.scopedRest cfg0.spec c) := by
  rw [scopedRest0_eq]
  unfold Φ₁ Y Pipeline.ownSems0
  rw [ox_split (fun k : Ox => semVal ((c.tc : Thread nD τ), osem k) 0), unscopedSems0_eq]
  simp only [bigSep_sep']
  iintro ⟨⟨⟨Hs0, Hs1⟩, Hgot⟩, Hsb, Hgl, Hgr, Hxs, Hx, Hl, ⟨Hst, Ho⟩, Hb⟩
  ihave Hx := (join_arg m c) $$ Hx
  ihave Ho := (join_out m c) $$ Ho
  ihave H0 := (join_sb c (m ((c : Thread nD τ).loc cc0_scratch0))) $$ Hsb
  ihave Hgot := (got_any m c) $$ Hgot
  ihave H1 := (join_rv c (m ((c : Thread nD τ).loc cc0_scratch1))) $$ Hgot
  ihave Hg := (gt_any m c) $$ [Hgl Hgr]
  · isplitl [Hgl]
    · iexact Hgl
    · iexact Hgr
  ihave H2 := (join_gt c (m ((c : Thread nD τ).loc cc0_scratch2))) $$ Hg
  ihave H3 := (join_xs c (m ((c : Thread nD τ).loc cc0_scratch3))) $$ Hxs
  isplitl [Hx Ho Hb]
  · isplitl [Hx]; · iexact Hx
    isplitl [Ho]; · iexact Ho
    iexact Hb
  isplitl [Hs0 Hs1 Hl Hst]
  · isplitl [Hs0 Hs1]
    · isplitl [Hs0]
      · iexact Hs0
      · iexact Hs1
    isplitl [Hl]
    · iexact Hl
    · iexact Hst
  isplitl [H0]; · iexact H0
  isplitl [H1]; · iexact H1
  isplitl [H2]; · iexact H2
  iexact H3

/-- The state's memory holds what the device holds. -/
theorem read_end (c : Dev nD) (s' : Phys nD τ sig (Elt F)) :
    iprop(Y m c ∗ emp ∗ SI s') ⊢ |={Set.univ}=> iprop(⌜s'.mem.mem ((c : Thread nD τ).loc main_arg0) = m ((c : Thread nD τ).loc main_arg0)
      ∧ s'.mem.mem ((c : Thread nD τ).loc main_v1) = out m
      ∧ ∀ sm : SemLoc sig, sm.isScoped .tc = false → s'.mem.sem ((c.tc : Thread nD τ), sm) = 0⌝ ∗ SI s') := by
  have hr {b : Ref sig .tc} (f : Buf (Elt F) ((c : Thread nD τ).loc b)) :
      iprop((((c : Thread nD τ).loc b) ↦{fullShare} f : sProp 𝕄) ∗ SI s') ⊢ iprop(⌜s'.mem.mem ((c : Thread nD τ).loc b) = f⌝ ∗ SI s') := by
    have h := pointsTo_read_all (Ix := Unit) (Name := ℕ) (U := UU) (Lvl := ℕ) (Finset.univ : Finset PUnit.{1}) (fun _ => (c : Thread nD τ).loc b) (fun _ => f) s'
    have h1 : bigSep (Finset.univ : Finset PUnit.{1}) (fun _ => (((c : Thread nD τ).loc b) ↦{fullShare} f : sProp 𝕄)) = (((c : Thread nD τ).loc b) ↦{fullShare} f) :=
      bigSep_univ_eq_bigSepL [PUnit.unit] (by decide) (by decide) _
    rw [h1] at h
    iintro H
    ihave H := (h) $$ H
    icases H with ⟨%h', H⟩
    isplitr
    · ipureintro; exact h' ⟨⟩ (Finset.mem_univ _)
    · iexact H
  unfold Y
  iintro ⟨⟨Hx, Ho, Hu⟩, -, HSI⟩
  ihave H := (hr (m ((c : Thread nD τ).loc main_arg0))) $$ [Hx HSI]
  · isplitl [Hx]
    · iexact Hx
    · iexact HSI
  icases H with ⟨%h1, HSI⟩
  ihave H := (hr (b := main_v1) (out m)) $$ [Ho HSI]
  · isplitl [Ho]
    · iexact Ho
    · iexact HSI
  icases H with ⟨%h2, HSI⟩
  imod (Pipeline.unscopedSems0_read (X := unscopedSems0 c) (c := c) fupd_intro s') $$ [Hu HSI] with H
  · isplitl [Hu]
    · iexact Hu
    · iexact HSI
  icases H with ⟨%h3, HSI⟩
  imodintro
  isplitr
  · ipureintro; exact ⟨h1, h2, h3⟩
  · iexact HSI

/-! ## The run -/

/-- From any memory, every fair run ends; then the argument is what it was, the result is `out`, and every semaphore is at zero. -/
theorem run_main (ρ : Dev nD → PrngReg) : θ_run defs (onTc (τ := τ) (main (F := F))) ⟨m, fun _ => 0, ρ⟩
    (fun r => (∀ c : Dev nD, r.2.mem ((c : Thread nD τ).loc main_arg0) = m ((c : Thread nD τ).loc main_arg0) ∧ r.2.mem ((c : Thread nD τ).loc main_v1) = out m)
      ∧ r.2.sem = fun _ => 0) :=
  Pipeline.θ_run_region_owing_glob_pf (fun p => (cfgs p).toPCfg) (fun p => (cfgs p).toPCfg_adm) (dats m) () cellOf_inj (0 : Fin 1)
    winFacts0.to₀ ⟨osem_scoped, osem_inj, fun _ w => w.elim0⟩ (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := fun c => Pipeline.cellsWaits_intro cfgs (dats m) () 0 c fun w => w.elim0)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP]
      · iexact HP
      · iexact HG)
    (hglob := glob m)
    (hA := fun _ w => w.elim0) (hpf := fun _ k => k.elim0)
    (X := X m) (Y := Y m) (Z := fun _ => iprop(emp))
    (hX := start_intro m ρ) (hin := phi0 m) (hout := phi1 m)
    (QY := fun c s => s.mem ((c : Thread nD τ).loc main_arg0) = m ((c : Thread nD τ).loc main_arg0) ∧ s.mem ((c : Thread nD τ).loc main_v1) = out m
      ∧ ∀ sm : SemLoc sig, sm.isScoped .tc = false → s.sem ((c.tc : Thread nD τ), sm) = 0)
    (hY := read_end m)
    (hQ := fun _ h hs => ⟨fun c => ⟨(h c).2.2.1, (h c).2.2.2.1⟩, sem_eq_zero hs fun c => (h c).2.2.2.2⟩)

end Cert.KernelIdeal.AR

end
-- ==== Proof.Value.lean ====
module

public import proofs.«01_k».proof.Proof.Parts
public import proofs.«01_k».proof.Proof.Gen.ReferenceIdeal.Run
public import Idealize.ShloMosaic.PureOps.Ideal
public import Idealize.ShloMosaic.Lib.ValueIdx
public import Idealize.ShloMosaic.Lib.IdealHost
public import Idealize.ShloMosaic.Lib.Pointwise
public import Idealize.ShloMosaic.Lib.Pipeline.Value
public import Idealize.ShloMosaic.Lib.Layout

/-! The result in exact arithmetic: each entry is the sum of the eight devices' entries there, in whatever order a ring adds them. -/

@[expose] public section

noncomputable section

namespace Cert.KernelIdeal.AR

open Idealize.ShloMosaic Idealize.ShloMosaic.TcCoe Idealize.SL.Sem
open Cert.KernelIdeal Cert.KernelIdeal.Gen

variable (m : (ℓ : Loc nD τ sig) → Buf (Elt Ideal) ℓ)

/-- Device `d`'s argument. -/
def arg (d : Dev nD) : S1x4096x2048.Idx → EReal := m ((d.tc : Thread nD τ).loc main_arg0)

/-- The entry of device `d`'s argument at row `y 0` of row block `s`, column `y 1` of column block `r`. -/
def entry (r : Fin 4) (s : ℕ) (hs : s < 8) (y : S512x512.Idx) (d : Dev nD) : EReal :=
  arg m d (ix3 0 ⟨512 * s + (y 0).val, by have : (y 0).val < 512 := (y 0).isLt; omega⟩ ⟨512 * r.val + (y 1).val, by have : (y 1).val < 512 := (y 1).isLt; omega⟩)

theorem xblk_entry (r : Fin 4) (c : Dev nD) (j : Fin 8) (y : S512x512.Idx) : xblk m r c j y = entry m r (sh r c j.val) (sh_lt _ _ _) y c := by
  have h : xblk m r c j = shapeCast S512x512 ((Memref.whole main_arg0).view.readAt (Elt Ideal) (xR r c j).toLoadRect (m ((c.tc : Thread nD τ).loc main_arg0)))
      (squeezes_S1x512x512_S512x512).numel_eq :=
    Memref.read_squeeze_slice (Val := Elt Ideal) (Memref.whole main_arg0) (xR r c j) (fun _ => rfl) squeezes_S1x512x512_S512x512 _ _
  rw [h]
  have h2 : shapeCast S512x512 ((Memref.whole main_arg0).view.readAt (Elt Ideal) (xR r c j).toLoadRect (m ((c.tc : Thread nD τ).loc main_arg0)))
      (squeezes_S1x512x512_S512x512).numel_eq y
    = (Memref.whole main_arg0).view.readAt (Elt Ideal) (xR r c j).toLoadRect (m ((c.tc : Thread nD τ).loc main_arg0)) (ix3 0 (y 0) (y 1)) := by
    simp only [pointwise]
  rw [h2]
  show arg m c _ = arg m c _
  refine congrArg (arg m c) (funext fun a => Fin.ext ?_)
  match a with
  | 0 => exact (show offX r c j 0 + 1 * 0 = 0 by rw [offX_eq]; rfl)
  | 1 => exact (show offX r c j 1 + 1 * (y 0).val = 512 * sh r c j.val + (y 0).val by rw [offX_eq, Nat.one_mul]; rfl)
  | 2 => exact (show offX r c j 2 + 1 * (y 1).val = 512 * r.val + (y 1).val by rw [offX_eq, Nat.one_mul]; rfl)

theorem sh_round (r : Fin 4) (c : Dev nD) (j : ℕ) : sh r c (j % 8) = sh r c j := by
  unfold sh; split <;> omega

theorem sh_back (r : Fin 4) (c : Dev nD) (j : ℕ) : sh r (pv r c) j = sh r c (j + 1) := by
  rw [← sh_nx r (pv r c) j, nx_pv]

theorem entry_eq (r : Fin 4) {s s' : ℕ} (h : s = s') (hs : s < 8) (hs' : s' < 8) (y : S512x512.Idx) (d : Dev nD) : entry m r s hs y d = entry m r s' hs' y d := by
  subst h; rfl

/-- A partial sum is the sum of the entries of the devices it has passed. -/
theorem part_sum (r : Fin 4) (y : S512x512.Idx) (n : ℕ) : ∀ c : Dev nD,
    (part m r c n y : EReal) = ∑ i ∈ Finset.range (n + 1), entry m r (sh r c n) (sh_lt _ _ _) y ((pv r)^[i] c) := by
  have hx (c : Dev nD) (j : ℕ) : (xcut m r c j y : EReal) = entry m r (sh r c j) (sh_lt _ _ _) y c :=
    (show (xcut m r c j y : EReal) = xblk m r c ⟨j % 8, Nat.mod_lt _ (by decide)⟩ y from rfl).trans
      ((xblk_entry m r c ⟨j % 8, Nat.mod_lt _ (by decide)⟩ y).trans (entry_eq m r (sh_round r c j) _ _ y c))
  induction n with
  | zero =>
    intro c
    rw [Finset.sum_range_one]
    exact hx c 0
  | succ n ih =>
    intro c
    rw [Finset.sum_range_succ']
    show (part m r (pv r c) n y : EReal) + xcut m r c (n + 1) y = _
    rw [hx, ih]
    refine congrArg (· + entry m r (sh r c (n + 1)) (sh_lt _ _ _) y c) (Finset.sum_congr rfl fun i _ => ?_)
    rw [Function.iterate_succ_apply]
    exact entry_eq m r (sh_back r c n) _ _ y _

/-- Going back eight times around a ring passes every device once. -/
theorem around : ∀ (r : Fin 4) (c : Dev nD), Function.Bijective (fun i : Fin 8 => ((pv r)^[i.val] c : Dev nD)) := by
  decide +kernel
theorem sh_last : ∀ (r : Fin 4) (s : Fin 8), sh r (pv r s) 7 = s.val := by decide

theorem rblk_sum (r : Fin 4) (s : Fin 8) (y : S512x512.Idx) : (rblk m r s y : EReal) = ∑ d : Dev nD, entry m r s.val s.isLt y d := by
  unfold rblk
  rw [part_sum, Finset.sum_range]
  rw [← (around r (pv r s)).sum_comp (fun d => entry m r s.val s.isLt y d)]
  exact Finset.sum_congr rfl fun i _ => entry_eq m r (sh_last r s) _ _ y _

theorem out_sum (x : S4096x2048.Idx) : (out m x : EReal) = ∑ d : Dev nD, arg m d (ix3 0 (x 0) (x 1)) := by
  have h0 : (x 0).val < 4096 := (x 0).isLt
  have h1 : (x 1).val < 2048 := (x 1).isLt
  have a0 : 512 * ((x 0).val / 512) + (x 0).val % 512 = (x 0).val := Nat.div_add_mod _ _
  have a1 : 512 * ((x 1).val / 512) + (x 1).val % 512 = (x 1).val := Nat.div_add_mod _ _
  let y : S512x512.Idx := ix2 ⟨(x 0).val % 512, Nat.mod_lt _ (by decide)⟩ ⟨(x 1).val % 512, Nat.mod_lt _ (by decide)⟩
  rw [out_at m x ⟨(x 1).val / 512, by omega⟩ ⟨(x 0).val / 512, by omega⟩ y a0.symm a1.symm, rblk_sum]
  refine Finset.sum_congr rfl fun d _ => congrArg (arg m d) (funext fun a => Fin.ext ?_)
  match a with
  | 0 => rfl
  | 1 => exact a0
  | 2 => exact a1

/-- The reference's result, of the whole argument. -/
def ref (V : Cert.ReferenceIdeal.S8x4096x2048.Idx → EReal) : S4096x2048.Idx → EReal := fun x => ∑ d : Fin 8, V (ix3 d (x 0) (x 1))

theorem out_ref (V : Cert.ReferenceIdeal.S8x4096x2048.Idx → EReal)
    (h : ∀ c : Dev nD, m ((c.tc : Thread nD τ).loc main_arg0) = Layout.block ⟨3, ![1, 4096, 2048]⟩ ⟨3, ![8, 4096, 2048]⟩ 0 8 c V) :
    out m = ref V := by
  funext x
  refine (out_sum m x).trans (Finset.sum_congr rfl fun d _ => ?_)
  refine (congrFun (h d) (ix3 0 (x 0) (x 1))).trans ?_
  rw [Layout.block_apply]
  refine congrArg V (funext fun a => Fin.ext ?_)
  rw [Layout.Tiles.idx_val]
  match a with
  | 0 => exact (show d.val * 1 + 0 = d.val by omega)
  | 1 => rfl
  | 2 => rfl

theorem ref_eq (V : Cert.ReferenceIdeal.S8x4096x2048.Idx → EReal) (h1 : Cert.ReferenceIdeal.S8x4096x2048.ReducesTo [0] Cert.ReferenceIdeal.S4096x2048) (h2 h3) :
    (truncf .bf16 (Host.reduceAdd (F := Ideal) (φ := .f32) V (constant Cert.ReferenceIdeal.S_ .f32 0x00000000#32) h1 h2) h3 : FVec Ideal Cert.ReferenceIdeal.S4096x2048 .bf16)
      = ref V := by
  funext x
  show Ideal.hostReduceAdd h1 V (Ideal.ofBits .f32 0x00000000#32) x = _
  rw [Ideal.ofBits_zero_f32]
  refine (Ideal.hostReduceAdd_r3_a0 h1 V 0 x).trans ?_
  rw [zero_add]
  rfl

end Cert.KernelIdeal.AR

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Launch
public import proofs.«01_k».proof.Proof.Value

/-! The claims: the kernel as compiled, its reading in exact arithmetic and the reference all run to their end and leave their
arguments and semaphores as they were; and the exact kernel's result is the reference's. -/

@[expose] public section

noncomputable section

namespace Cert.Proof

open Idealize.ShloMosaic Idealize.SL.Sem

attribute [local instance] Cert.Kernel.Gen.facts Cert.KernelIdeal.Gen.facts Cert.ReferenceIdeal.Gen.facts

/-- The compiled kernel's frame: the run, which holds for any float values, read at the argument and the semaphores. -/
theorem frame_kernel : Cert.quiescent_Kernel := fun m ρ _ =>
  (θ_run Cert.KernelIdeal.defs _ _).mono (fun _ h => ⟨fun c => (h.1 c).1, h.2⟩) (Cert.KernelIdeal.AR.run_main (F := Bits) m ρ)

/-- The same of its reading in exact arithmetic. -/
theorem frame_ideal : Cert.quiescent_KernelIdeal := fun m ρ _ =>
  (θ_run Cert.KernelIdeal.defs _ _).mono (fun _ h => ⟨fun c => (h.1 c).1, h.2⟩) (Cert.KernelIdeal.AR.run_main (F := Ideal) m ρ)

/-- The reference's frame: it writes its results alone and has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device ends with the reference's result. -/
theorem exact_result : Cert.algebraic_KernelIdeal_ReferenceIdeal := fun m ρ m' ρ' _ hm =>
  ⟨Cert.KernelIdeal.AR.ref (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h.1 c).2.trans (Cert.KernelIdeal.AR.out_ref m _ hm), (h.1 c).1⟩) (Cert.KernelIdeal.AR.run_main (F := Ideal) m ρ),
    (θ_run Cert.ReferenceIdeal.defs _ _).mono
      (fun _ h => ⟨(h 0).1.trans (Cert.KernelIdeal.AR.ref_eq _ _ _ _), (h 0).2⟩) (Cert.ReferenceIdeal.Value.run (F := Ideal) m' ρ')⟩

/-- All five claims. -/
theorem claim : Cert.Claim :=
  ⟨Cert.Kernel.Gen.facts, Cert.KernelIdeal.Gen.facts, Cert.ReferenceIdeal.Gen.facts, frame_kernel, frame_ideal, frame_reference, trivial, exact_result⟩

end Cert.Proof

end
